-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v249) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x576x768 : Shape := ⟨3, ![8, 576, 768]⟩
abbrev S8x1x576 : Shape := ⟨3, ![8, 1, 576]⟩
abbrev S4608x768 : Shape := ⟨2, ![4608, 768]⟩
abbrev S4608x1 : Shape := ⟨2, ![4608, 1]⟩
abbrev S4608x576 : Shape := ⟨2, ![4608, 576]⟩
abbrev S1x768 : Shape := ⟨2, ![1, 768]⟩
abbrev S1x576x768 : Shape := ⟨3, ![1, 576, 768]⟩
abbrev S576x768 : Shape := ⟨2, ![576, 768]⟩
abbrev S576 : Shape := ⟨1, ![576]⟩
abbrev S576x1 : Shape := ⟨2, ![576, 1]⟩
abbrev S1x576 : Shape := ⟨2, ![1, 576]⟩
abbrev S1x1x576 : Shape := ⟨3, ![1, 1, 576]⟩
abbrev S576x576 : Shape := ⟨2, ![576, 576]⟩

abbrev nBuf : Space → Nat
  | .hbm => 2
  | .vmem => 9
  | .smem => 0
  | _ => 0

abbrev bufTy : (tb : Table) → Fin (tcTables nBuf tb) → BufTy
  | .hbm, ⟨0, _⟩ => ⟨S8x576x768, .f32⟩
  | .hbm, ⟨1, _⟩ => ⟨S8x1x576, .f32⟩
  | .local _ .vmem, ⟨0, _⟩ => ⟨S8x576x768, .f32⟩
  | .local _ .vmem, ⟨1, _⟩ => ⟨S8x1x576, .f32⟩
  | .local _ .vmem, ⟨2, _⟩ => ⟨S4608x768, .bf16⟩
  | .local _ .vmem, ⟨3, _⟩ => ⟨S8x576x768, .bf16⟩
  | .local _ .vmem, ⟨4, _⟩ => ⟨S4608x1, .f32⟩
  | .local _ .vmem, ⟨5, _⟩ => ⟨S4608x1, .bf16⟩
  | .local _ .vmem, ⟨6, _⟩ => ⟨S8x1x576, .f32⟩
  | .local _ .vmem, ⟨7, _⟩ => ⟨S4608x576, .bf16⟩
  | .local _ .vmem, ⟨8, _⟩ => ⟨S4608x576, .bf16⟩
  | _, _ => ⟨S8x576x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32_3 : BitVec 32 := 1#32
  let v7 : BitVec 32 := Scalar.select v6 c1_i32_3 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_7 : BitVec 32 := 0#32
  let v16 : BitVec 1 := Scalar.cmpi .eq v15 c0_i32_7
  let v17 : BitVec 32 := Scalar.extui v16
  let c0_i32_8 : BitVec 32 := 0#32
  let v18 : BitVec 1 := Scalar.cmpi .ne v17 c0_i32_8
  v18

def k0_off1 (i : grid0.Coords) : Fin 3 → Nat :=
  let arg0 : BitVec 32 := BitVec.ofNat 32 (i 0).val
  let c7_i32 : BitVec 32 := 7#32
  let v3 : BitVec 32 := Scalar.minsi arg0 c7_i32
  let v33 : Index := Scalar.indexCast v3
  let c0_18 : Index := 0#32
  let c0_19 : Index := 0#32
  ![v33.toNat, 0, 0]
def k0_off2 (i : grid0.Coords) : Fin 3 → Nat :=
  let arg0 : BitVec 32 := BitVec.ofNat 32 (i 0).val
  let c1_i32 : BitVec 32 := 1#32
  let v4 : BitVec 32 := Scalar.subi arg0 c1_i32
  let c0_i32_1 : BitVec 32 := 0#32
  let v5 : BitVec 32 := Scalar.maxsi v4 c0_i32_1
  let v41 : Index := Scalar.indexCast v5
  let c0_22 : Index := 0#32
  let c0_23 : Index := 0#32
  ![v41.toNat, 0, 0]
def k0_cond3 (i : grid0.Coords) : BitVec 1 :=
  let arg0 : BitVec 32 := BitVec.ofNat 32 (i 0).val
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_15 : BitVec 32 := 1#32
  let v29 : BitVec 1 := Scalar.cmpi .eq v28 c1_i32_15
  let v30 : BitVec 32 := Scalar.extui v29
  let c0_i32_16 : BitVec 32 := 0#32
  let v31 : BitVec 1 := Scalar.cmpi .ne v30 c0_i32_16
  v31

def k0_off3 (i : grid0.Coords) : Fin 3 → Nat :=
  let arg0 : BitVec 32 := BitVec.ofNat 32 (i 0).val
  let c7_i32 : BitVec 32 := 7#32
  let v3 : BitVec 32 := Scalar.minsi arg0 c7_i32
  let v33 : Index := Scalar.indexCast v3
  let c0_18 : Index := 0#32
  let c0_19 : Index := 0#32
  ![v33.toNat, 0, 0]
def k0_off4 (i : grid0.Coords) : Fin 3 → Nat :=
  let arg0 : BitVec 32 := BitVec.ofNat 32 (i 0).val
  let c1_i32 : BitVec 32 := 1#32
  let v4 : BitVec 32 := Scalar.subi arg0 c1_i32
  let c0_i32_1 : BitVec 32 := 0#32
  let v5 : BitVec 32 := Scalar.maxsi v4 c0_i32_1
  let v41 : Index := Scalar.indexCast v5
  let c0_22 : Index := 0#32
  let c0_23 : Index := 0#32
  ![v41.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x576x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8x576x768 : Shape := ⟨3, ![8, 576, 768]⟩
abbrev S1x576x768 : Shape := ⟨3, ![1, 576, 768]⟩
abbrev S576x768 : Shape := ⟨2, ![576, 768]⟩
abbrev S0x576x768 : Shape := ⟨3, ![0, 576, 768]⟩
abbrev S7x576x768 : Shape := ⟨3, ![7, 576, 768]⟩
abbrev S4032x768 : Shape := ⟨2, ![4032, 768]⟩
abbrev S_ : Shape := ⟨0, ![]⟩
abbrev S576 : Shape := ⟨1, ![576]⟩
abbrev S576x1 : Shape := ⟨2, ![576, 1]⟩
abbrev S4032 : Shape := ⟨1, ![4032]⟩
abbrev S1x4032 : Shape := ⟨2, ![1, 4032]⟩
abbrev S576x4032 : Shape := ⟨2, ![576, 4032]⟩
abbrev S768x4032 : Shape := ⟨2, ![768, 4032]⟩
abbrev S576x7x576 : Shape := ⟨3, ![576, 7, 576]⟩
abbrev S576x7 : Shape := ⟨2, ![576, 7]⟩
abbrev S576x2 : Shape := ⟨2, ![576, 2]⟩
abbrev S6x576x768 : Shape := ⟨3, ![6, 576, 768]⟩
abbrev S2x576x768 : Shape := ⟨3, ![2, 576, 768]⟩
abbrev S5x576x768 : Shape := ⟨3, ![5, 576, 768]⟩
abbrev S3x576x768 : Shape := ⟨3, ![3, 576, 768]⟩
abbrev S4x576x768 : Shape := ⟨3, ![4, 576, 768]⟩
abbrev S1x576 : Shape := ⟨2, ![1, 576]⟩
abbrev S8x576 : Shape := ⟨2, ![8, 576]⟩
abbrev S8x1x576 : Shape := ⟨3, ![8, 1, 576]⟩

abbrev nBuf : Space → Nat
  | .hbm => 339
  | .vmem => 0
  | .smem => 0
  | _ => 0

abbrev hbmTy0_0 (i : Nat) : BufTy := match i % 128 with
  | 0 => ⟨S8x576x768, .f32⟩
  | 1 => ⟨S1x576x768, .f32⟩
  | 2 => ⟨S576x768, .f32⟩
  | 3 => ⟨S0x576x768, .f32⟩
  | 4 => ⟨S7x576x768, .f32⟩
  | 5 => ⟨S7x576x768, .f32⟩
  | 6 => ⟨S4032x768, .f32⟩
  | 7 => ⟨S576x768, .f32⟩
  | 8 => ⟨S_, .f32⟩
  | 9 => ⟨S576, .f32⟩
  | 10 => ⟨S576x1, .f32⟩
  | 11 => ⟨S4032x768, .f32⟩
  | 12 => ⟨S_, .f32⟩
  | 13 => ⟨S4032, .f32⟩
  | 14 => ⟨S1x4032, .f32⟩
  | 15 => ⟨S576x4032, .f32⟩
  | 16 => ⟨S576x4032, .f32⟩
  | 17 => ⟨S576x4032, .f32⟩
  | 18 => ⟨S768x4032, .f32⟩
  | 19 => ⟨S576x4032, .f32⟩
  | 20 => ⟨S_, .f32⟩
  | 21 => ⟨S576x4032, .f32⟩
  | 22 => ⟨S576x4032, .f32⟩
  | 23 => ⟨S576x4032, .f32⟩
  | 24 => ⟨S_, .f32⟩
  | 25 => ⟨S576x4032, .f32⟩
  | 26 => ⟨S576x4032, .f32⟩
  | 27 => ⟨S576x4032, .f32⟩
  | 28 => ⟨S576x7x576, .f32⟩
  | 29 => ⟨S_, .f32⟩
  | 30 => ⟨S576x7, .f32⟩
  | 31 => ⟨S576x7, .f32⟩
  | 32 => ⟨S576x2, .f32⟩
  | 33 => ⟨S576x2, .i32⟩
  | 34 => ⟨S576x2, .f32⟩
  | 35 => ⟨S576x2, .f32⟩
  | 36 => ⟨S576x2, .i32⟩
  | 37 => ⟨S_, .f32⟩
  | 38 => ⟨S576, .f32⟩
  | 39 => ⟨S_, .f32⟩
  | 40 => ⟨S576, .f32⟩
  | 41 => ⟨S576, .f32⟩
  | 42 => ⟨S1x576x768, .f32⟩
  | 43 => ⟨S576x768, .f32⟩
  | 44 => ⟨S1x576x768, .f32⟩
  | 45 => ⟨S6x576x768, .f32⟩
  | 46 => ⟨S7x576x768, .f32⟩
  | 47 => ⟨S4032x768, .f32⟩
  | 48 => ⟨S576x768, .f32⟩
  | 49 => ⟨S_, .f32⟩
  | 50 => ⟨S576, .f32⟩
  | 51 => ⟨S576x1, .f32⟩
  | 52 => ⟨S4032x768, .f32⟩
  | 53 => ⟨S_, .f32⟩
  | 54 => ⟨S4032, .f32⟩
  | 55 => ⟨S1x4032, .f32⟩
  | 56 => ⟨S576x4032, .f32⟩
  | 57 => ⟨S576x4032, .f32⟩
  | 58 => ⟨S576x4032, .f32⟩
  | 59 => ⟨S768x4032, .f32⟩
  | 60 => ⟨S576x4032, .f32⟩
  | 61 => ⟨S_, .f32⟩
  | 62 => ⟨S576x4032, .f32⟩
  | 63 => ⟨S576x4032, .f32⟩
  | 64 => ⟨S576x4032, .f32⟩
  | 65 => ⟨S_, .f32⟩
  | 66 => ⟨S576x4032, .f32⟩
  | 67 => ⟨S576x4032, .f32⟩
  | 68 => ⟨S576x4032, .f32⟩
  | 69 => ⟨S576x7x576, .f32⟩
  | 70 => ⟨S_, .f32⟩
  | 71 => ⟨S576x7, .f32⟩
  | 72 => ⟨S576x7, .f32⟩
  | 73 => ⟨S576x2, .f32⟩
  | 74 => ⟨S576x2, .i32⟩
  | 75 => ⟨S576x2, .f32⟩
  | 76 => ⟨S576x2, .f32⟩
  | 77 => ⟨S576x2, .i32⟩
  | 78 => ⟨S_, .f32⟩
  | 79 => ⟨S576, .f32⟩
  | 80 => ⟨S_, .f32⟩
  | 81 => ⟨S576, .f32⟩
  | 82 => ⟨S576, .f32⟩
  | 83 => ⟨S1x576x768, .f32⟩
  | 84 => ⟨S576x768, .f32⟩
  | 85 => ⟨S2x576x768, .f32⟩
  | 86 => ⟨S5x576x768, .f32⟩
  | 87 => ⟨S7x576x768, .f32⟩
  | 88 => ⟨S4032x768, .f32⟩
  | 89 => ⟨S576x768, .f32⟩
  | 90 => ⟨S_, .f32⟩
  | 91 => ⟨S576, .f32⟩
  | 92 => ⟨S576x1, .f32⟩
  | 93 => ⟨S4032x768, .f32⟩
  | 94 => ⟨S_, .f32⟩
  | 95 => ⟨S4032, .f32⟩
  | 96 => ⟨S1x4032, .f32⟩
  | 97 => ⟨S576x4032, .f32⟩
  | 98 => ⟨S576x4032, .f32⟩
  | 99 => ⟨S576x4032, .f32⟩
  | 100 => ⟨S768x4032, .f32⟩
  | 101 => ⟨S576x4032, .f32⟩
  | 102 => ⟨S_, .f32⟩
  | 103 => ⟨S576x4032, .f32⟩
  | 104 => ⟨S576x4032, .f32⟩
  | 105 => ⟨S576x4032, .f32⟩
  | 106 => ⟨S_, .f32⟩
  | 107 => ⟨S576x4032, .f32⟩
  | 108 => ⟨S576x4032, .f32⟩
  | 109 => ⟨S576x4032, .f32⟩
  | 110 => ⟨S576x7x576, .f32⟩
  | 111 => ⟨S_, .f32⟩
  | 112 => ⟨S576x7, .f32⟩
  | 113 => ⟨S576x7, .f32⟩
  | 114 => ⟨S576x2, .f32⟩
  | 115 => ⟨S576x2, .i32⟩
  | 116 => ⟨S576x2, .f32⟩
  | 117 => ⟨S576x2, .f32⟩
  | 118 => ⟨S576x2, .i32⟩
  | 119 => ⟨S_, .f32⟩
  | 120 => ⟨S576, .f32⟩
  | 121 => ⟨S_, .f32⟩
  | 122 => ⟨S576, .f32⟩
  | 123 => ⟨S576, .f32⟩
  | 124 => ⟨S1x576x768, .f32⟩
  | 125 => ⟨S576x768, .f32⟩
  | 126 => ⟨S3x576x768, .f32⟩
  | 127 => ⟨S4x576x768, .f32⟩
  | _ => ⟨S8x576x768, .f32⟩

abbrev hbmTy0_1 (i : Nat) : BufTy := match i % 128 with
  | 0 => ⟨S7x576x768, .f32⟩
  | 1 => ⟨S4032x768, .f32⟩
  | 2 => ⟨S576x768, .f32⟩
  | 3 => ⟨S_, .f32⟩
  | 4 => ⟨S576, .f32⟩
  | 5 => ⟨S576x1, .f32⟩
  | 6 => ⟨S4032x768, .f32⟩
  | 7 => ⟨S_, .f32⟩
  | 8 => ⟨S4032, .f32⟩
  | 9 => ⟨S1x4032, .f32⟩
  | 10 => ⟨S576x4032, .f32⟩
  | 11 => ⟨S576x4032, .f32⟩
  | 12 => ⟨S576x4032, .f32⟩
  | 13 => ⟨S768x4032, .f32⟩
  | 14 => ⟨S576x4032, .f32⟩
  | 15 => ⟨S_, .f32⟩
  | 16 => ⟨S576x4032, .f32⟩
  | 17 => ⟨S576x4032, .f32⟩
  | 18 => ⟨S576x4032, .f32⟩
  | 19 => ⟨S_, .f32⟩
  | 20 => ⟨S576x4032, .f32⟩
  | 21 => ⟨S576x4032, .f32⟩
  | 22 => ⟨S576x4032, .f32⟩
  | 23 => ⟨S576x7x576, .f32⟩
  | 24 => ⟨S_, .f32⟩
  | 25 => ⟨S576x7, .f32⟩
  | 26 => ⟨S576x7, .f32⟩
  | 27 => ⟨S576x2, .f32⟩
  | 28 => ⟨S576x2, .i32⟩
  | 29 => ⟨S576x2, .f32⟩
  | 30 => ⟨S576x2, .f32⟩
  | 31 => ⟨S576x2, .i32⟩
  | 32 => ⟨S_, .f32⟩
  | 33 => ⟨S576, .f32⟩
  | 34 => ⟨S_, .f32⟩
  | 35 => ⟨S576, .f32⟩
  | 36 => ⟨S576, .f32⟩
  | 37 => ⟨S1x576x768, .f32⟩
  | 38 => ⟨S576x768, .f32⟩
  | 39 => ⟨S4x576x768, .f32⟩
  | 40 => ⟨S3x576x768, .f32⟩
  | 41 => ⟨S7x576x768, .f32⟩
  | 42 => ⟨S4032x768, .f32⟩
  | 43 => ⟨S576x768, .f32⟩
  | 44 => ⟨S_, .f32⟩
  | 45 => ⟨S576, .f32⟩
  | 46 => ⟨S576x1, .f32⟩
  | 47 => ⟨S4032x768, .f32⟩
  | 48 => ⟨S_, .f32⟩
  | 49 => ⟨S4032, .f32⟩
  | 50 => ⟨S1x4032, .f32⟩
  | 51 => ⟨S576x4032, .f32⟩
  | 52 => ⟨S576x4032, .f32⟩
  | 53 => ⟨S576x4032, .f32⟩
  | 54 => ⟨S768x4032, .f32⟩
  | 55 => ⟨S576x4032, .f32⟩
  | 56 => ⟨S_, .f32⟩
  | 57 => ⟨S576x4032, .f32⟩
  | 58 => ⟨S576x4032, .f32⟩
  | 59 => ⟨S576x4032, .f32⟩
  | 60 => ⟨S_, .f32⟩
  | 61 => ⟨S576x4032, .f32⟩
  | 62 => ⟨S576x4032, .f32⟩
  | 63 => ⟨S576x4032, .f32⟩
  | 64 => ⟨S576x7x576, .f32⟩
  | 65 => ⟨S_, .f32⟩
  | 66 => ⟨S576x7, .f32⟩
  | 67 => ⟨S576x7, .f32⟩
  | 68 => ⟨S576x2, .f32⟩
  | 69 => ⟨S576x2, .i32⟩
  | 70 => ⟨S576x2, .f32⟩
  | 71 => ⟨S576x2, .f32⟩
  | 72 => ⟨S576x2, .i32⟩
  | 73 => ⟨S_, .f32⟩
  | 74 => ⟨S576, .f32⟩
  | 75 => ⟨S_, .f32⟩
  | 76 => ⟨S576, .f32⟩
  | 77 => ⟨S576, .f32⟩
  | 78 => ⟨S1x576x768, .f32⟩
  | 79 => ⟨S576x768, .f32⟩
  | 80 => ⟨S5x576x768, .f32⟩
  | 81 => ⟨S2x576x768, .f32⟩
  | 82 => ⟨S7x576x768, .f32⟩
  | 83 => ⟨S4032x768, .f32⟩
  | 84 => ⟨S576x768, .f32⟩
  | 85 => ⟨S_, .f32⟩
  | 86 => ⟨S576, .f32⟩
  | 87 => ⟨S576x1, .f32⟩
  | 88 => ⟨S4032x768, .f32⟩
  | 89 => ⟨S_, .f32⟩
  | 90 => ⟨S4032, .f32⟩
  | 91 => ⟨S1x4032, .f32⟩
  | 92 => ⟨S576x4032, .f32⟩
  | 93 => ⟨S576x4032, .f32⟩
  | 94 => ⟨S576x4032, .f32⟩
  | 95 => ⟨S768x4032, .f32⟩
  | 96 => ⟨S576x4032, .f32⟩
  | 97 => ⟨S_, .f32⟩
  | 98 => ⟨S576x4032, .f32⟩
  | 99 => ⟨S576x4032, .f32⟩
  | 100 => ⟨S576x4032, .f32⟩
  | 101 => ⟨S_, .f32⟩
  | 102 => ⟨S576x4032, .f32⟩
  | 103 => ⟨S576x4032, .f32⟩
  | 104 => ⟨S576x4032, .f32⟩
  | 105 => ⟨S576x7x576, .f32⟩
  | 106 => ⟨S_, .f32⟩
  | 107 => ⟨S576x7, .f32⟩
  | 108 => ⟨S576x7, .f32⟩
  | 109 => ⟨S576x2, .f32⟩
  | 110 => ⟨S576x2, .i32⟩
  | 111 => ⟨S576x2, .f32⟩
  | 112 => ⟨S576x2, .f32⟩
  | 113 => ⟨S576x2, .i32⟩
  | 114 => ⟨S_, .f32⟩
  | 115 => ⟨S576, .f32⟩
  | 116 => ⟨S_, .f32⟩
  | 117 => ⟨S576, .f32⟩
  | 118 => ⟨S576, .f32⟩
  | 119 => ⟨S1x576x768, .f32⟩
  | 120 => ⟨S576x768, .f32⟩
  | 121 => ⟨S6x576x768, .f32⟩
  | 122 => ⟨S1x576x768, .f32⟩
  | 123 => ⟨S7x576x768, .f32⟩
  | 124 => ⟨S4032x768, .f32⟩
  | 125 => ⟨S576x768, .f32⟩
  | 126 => ⟨S_, .f32⟩
  | 127 => ⟨S576, .f32⟩
  | _ => ⟨S8x576x768, .f32⟩

abbrev hbmTy0_2 (i : Nat) : BufTy := match i % 128 with
  | 0 => ⟨S576x1, .f32⟩
  | 1 => ⟨S4032x768, .f32⟩
  | 2 => ⟨S_, .f32⟩
  | 3 => ⟨S4032, .f32⟩
  | 4 => ⟨S1x4032, .f32⟩
  | 5 => ⟨S576x4032, .f32⟩
  | 6 => ⟨S576x4032, .f32⟩
  | 7 => ⟨S576x4032, .f32⟩
  | 8 => ⟨S768x4032, .f32⟩
  | 9 => ⟨S576x4032, .f32⟩
  | 10 => ⟨S_, .f32⟩
  | 11 => ⟨S576x4032, .f32⟩
  | 12 => ⟨S576x4032, .f32⟩
  | 13 => ⟨S576x4032, .f32⟩
  | 14 => ⟨S_, .f32⟩
  | 15 => ⟨S576x4032, .f32⟩
  | 16 => ⟨S576x4032, .f32⟩
  | 17 => ⟨S576x4032, .f32⟩
  | 18 => ⟨S576x7x576, .f32⟩
  | 19 => ⟨S_, .f32⟩
  | 20 => ⟨S576x7, .f32⟩
  | 21 => ⟨S576x7, .f32⟩
  | 22 => ⟨S576x2, .f32⟩
  | 23 => ⟨S576x2, .i32⟩
  | 24 => ⟨S576x2, .f32⟩
  | 25 => ⟨S576x2, .f32⟩
  | 26 => ⟨S576x2, .i32⟩
  | 27 => ⟨S_, .f32⟩
  | 28 => ⟨S576, .f32⟩
  | 29 => ⟨S_, .f32⟩
  | 30 => ⟨S576, .f32⟩
  | 31 => ⟨S576, .f32⟩
  | 32 => ⟨S1x576x768, .f32⟩
  | 33 => ⟨S576x768, .f32⟩
  | 34 => ⟨S7x576x768, .f32⟩
  | 35 => ⟨S0x576x768, .f32⟩
  | 36 => ⟨S7x576x768, .f32⟩
  | 37 => ⟨S4032x768, .f32⟩
  | 38 => ⟨S576x768, .f32⟩
  | 39 => ⟨S_, .f32⟩
  | 40 => ⟨S576, .f32⟩
  | 41 => ⟨S576x1, .f32⟩
  | 42 => ⟨S4032x768, .f32⟩
  | 43 => ⟨S_, .f32⟩
  | 44 => ⟨S4032, .f32⟩
  | 45 => ⟨S1x4032, .f32⟩
  | 46 => ⟨S576x4032, .f32⟩
  | 47 => ⟨S576x4032, .f32⟩
  | 48 => ⟨S576x4032, .f32⟩
  | 49 => ⟨S768x4032, .f32⟩
  | 50 => ⟨S576x4032, .f32⟩
  | 51 => ⟨S_, .f32⟩
  | 52 => ⟨S576x4032, .f32⟩
  | 53 => ⟨S576x4032, .f32⟩
  | 54 => ⟨S576x4032, .f32⟩
  | 55 => ⟨S_, .f32⟩
  | 56 => ⟨S576x4032, .f32⟩
  | 57 => ⟨S576x4032, .f32⟩
  | 58 => ⟨S576x4032, .f32⟩
  | 59 => ⟨S576x7x576, .f32⟩
  | 60 => ⟨S_, .f32⟩
  | 61 => ⟨S576x7, .f32⟩
  | 62 => ⟨S576x7, .f32⟩
  | 63 => ⟨S576x2, .f32⟩
  | 64 => ⟨S576x2, .i32⟩
  | 65 => ⟨S576x2, .f32⟩
  | 66 => ⟨S576x2, .f32⟩
  | 67 => ⟨S576x2, .i32⟩
  | 68 => ⟨S_, .f32⟩
  | 69 => ⟨S576, .f32⟩
  | 70 => ⟨S_, .f32⟩
  | 71 => ⟨S576, .f32⟩
  | 72 => ⟨S576, .f32⟩
  | 73 => ⟨S1x576, .f32⟩
  | 74 => ⟨S1x576, .f32⟩
  | 75 => ⟨S1x576, .f32⟩
  | 76 => ⟨S1x576, .f32⟩
  | 77 => ⟨S1x576, .f32⟩
  | 78 => ⟨S1x576, .f32⟩
  | 79 => ⟨S1x576, .f32⟩
  | 80 => ⟨S1x576, .f32⟩
  | 81 => ⟨S8x576, .f32⟩
  | 82 => ⟨S8x1x576, .f32⟩
  | _ => ⟨S8x576x768, .f32⟩

abbrev hbmTy (i : Nat) : BufTy := match i / 128 with
  | 0 => hbmTy0_0 i
  | 1 => hbmTy0_1 i
  | 2 => hbmTy0_2 i
  | _ => ⟨S8x576x768, .f32⟩

abbrev bufTy : (tb : Table) → Fin (tcTables nBuf tb) → BufTy
  | .hbm, ⟨i, _⟩ => hbmTy i
  | _, _ => ⟨S8x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_3 : Ref sig .tc := ⟨.hbm, 29, rfl⟩
abbrev main_v24 : Ref sig .tc := ⟨.hbm, 30, rfl⟩
abbrev main_v25 : Ref sig .tc := ⟨.hbm, 31, rfl⟩
abbrev main_values : Ref sig .tc := ⟨.hbm, 32, rfl⟩
abbrev main_indices : Ref sig .tc := ⟨.hbm, 33, rfl⟩
abbrev main_v26 : Ref sig .tc := ⟨.hbm, 34, rfl⟩
abbrev main_values_4 : Ref sig .tc := ⟨.hbm, 35, rfl⟩
abbrev main_indices_5 : Ref sig .tc := ⟨.hbm, 36, rfl⟩
abbrev main_cst_6 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_11 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_12 : Ref sig .tc := ⟨.hbm, 70, rfl⟩
abbrev main_v54 : Ref sig .tc := ⟨.hbm, 71, rfl⟩
abbrev main_v55 : Ref sig .tc := ⟨.hbm, 72, rfl⟩
abbrev main_values_13 : Ref sig .tc := ⟨.hbm, 73, rfl⟩
abbrev main_indices_14 : Ref sig .tc := ⟨.hbm, 74, rfl⟩
abbrev main_v56 : Ref sig .tc := ⟨.hbm, 75, rfl⟩
abbrev main_values_15 : Ref sig .tc := ⟨.hbm, 76, rfl⟩
abbrev main_indices_16 : Ref sig .tc := ⟨.hbm, 77, rfl⟩
abbrev main_cst_17 : Ref sig .tc := ⟨.hbm, 78, rfl⟩
abbrev main_v57 : Ref sig .tc := ⟨.hbm, 79, rfl⟩
abbrev main_cst_18 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_19 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_20 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_21 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_22 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_23 : Ref sig .tc := ⟨.hbm, 111, rfl⟩
abbrev main_v84 : Ref sig .tc := ⟨.hbm, 112, rfl⟩
abbrev main_v85 : Ref sig .tc := ⟨.hbm, 113, rfl⟩
abbrev main_values_24 : Ref sig .tc := ⟨.hbm, 114, rfl⟩
abbrev main_indices_25 : Ref sig .tc := ⟨.hbm, 115, rfl⟩
abbrev main_v86 : Ref sig .tc := ⟨.hbm, 116, rfl⟩
abbrev main_values_26 : Ref sig .tc := ⟨.hbm, 117, rfl⟩
abbrev main_indices_27 : Ref sig .tc := ⟨.hbm, 118, rfl⟩
abbrev main_cst_28 : Ref sig .tc := ⟨.hbm, 119, rfl⟩
abbrev main_v87 : Ref sig .tc := ⟨.hbm, 120, rfl⟩
abbrev main_cst_29 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_30 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_31 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_32 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_33 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_34 : Ref sig .tc := ⟨.hbm, 152, rfl⟩
abbrev main_v114 : Ref sig .tc := ⟨.hbm, 153, rfl⟩
abbrev main_v115 : Ref sig .tc := ⟨.hbm, 154, rfl⟩
abbrev main_values_35 : Ref sig .tc := ⟨.hbm, 155, rfl⟩
abbrev main_indices_36 : Ref sig .tc := ⟨.hbm, 156, rfl⟩
abbrev main_v116 : Ref sig .tc := ⟨.hbm, 157, rfl⟩
abbrev main_values_37 : Ref sig .tc := ⟨.hbm, 158, rfl⟩
abbrev main_indices_38 : Ref sig .tc := ⟨.hbm, 159, rfl⟩
abbrev main_cst_39 : Ref sig .tc := ⟨.hbm, 160, rfl⟩
abbrev main_v117 : Ref sig .tc := ⟨.hbm, 161, rfl⟩
abbrev main_cst_40 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_41 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_42 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_cst_43 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_44 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_45 : Ref sig .tc := ⟨.hbm, 193, rfl⟩
abbrev main_v144 : Ref sig .tc := ⟨.hbm, 194, rfl⟩
abbrev main_v145 : Ref sig .tc := ⟨.hbm, 195, rfl⟩
abbrev main_values_46 : Ref sig .tc := ⟨.hbm, 196, rfl⟩
abbrev main_indices_47 : Ref sig .tc := ⟨.hbm, 197, rfl⟩
abbrev main_v146 : Ref sig .tc := ⟨.hbm, 198, rfl⟩
abbrev main_values_48 : Ref sig .tc := ⟨.hbm, 199, rfl⟩
abbrev main_indices_49 : Ref sig .tc := ⟨.hbm, 200, rfl⟩
abbrev main_cst_50 : Ref sig .tc := ⟨.hbm, 201, rfl⟩
abbrev main_v147 : Ref sig .tc := ⟨.hbm, 202, rfl⟩
abbrev main_cst_51 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_52 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_cst_53 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_54 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_cst_55 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_cst_56 : Ref sig .tc := ⟨.hbm, 234, rfl⟩
abbrev main_v174 : Ref sig .tc := ⟨.hbm, 235, rfl⟩
abbrev main_v175 : Ref sig .tc := ⟨.hbm, 236, rfl⟩
abbrev main_values_57 : Ref sig .tc := ⟨.hbm, 237, rfl⟩
abbrev main_indices_58 : Ref sig .tc := ⟨.hbm, 238, rfl⟩
abbrev main_v176 : Ref sig .tc := ⟨.hbm, 239, rfl⟩
abbrev main_values_59 : Ref sig .tc := ⟨.hbm, 240, rfl⟩
abbrev main_indices_60 : Ref sig .tc := ⟨.hbm, 241, rfl⟩
abbrev main_cst_61 : Ref sig .tc := ⟨.hbm, 242, rfl⟩
abbrev main_v177 : Ref sig .tc := ⟨.hbm, 243, rfl⟩
abbrev main_cst_62 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_cst_63 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_cst_64 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_cst_65 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_cst_66 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_cst_67 : Ref sig .tc := ⟨.hbm, 275, rfl⟩
abbrev main_v204 : Ref sig .tc := ⟨.hbm, 276, rfl⟩
abbrev main_v205 : Ref sig .tc := ⟨.hbm, 277, rfl⟩
abbrev main_values_68 : Ref sig .tc := ⟨.hbm, 278, rfl⟩
abbrev main_indices_69 : Ref sig .tc := ⟨.hbm, 279, rfl⟩
abbrev main_v206 : Ref sig .tc := ⟨.hbm, 280, rfl⟩
abbrev main_values_70 : Ref sig .tc := ⟨.hbm, 281, rfl⟩
abbrev main_indices_71 : Ref sig .tc := ⟨.hbm, 282, rfl⟩
abbrev main_cst_72 : Ref sig .tc := ⟨.hbm, 283, rfl⟩
abbrev main_v207 : Ref sig .tc := ⟨.hbm, 284, rfl⟩
abbrev main_cst_73 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_cst_74 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_cst_75 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_v225 : Ref sig .tc := ⟨.hbm, 305, rfl⟩
abbrev main_v226 : Ref sig .tc := ⟨.hbm, 306, rfl⟩
abbrev main_cst_76 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_cst_77 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_cst_78 : Ref sig .tc := ⟨.hbm, 316, rfl⟩
abbrev main_v234 : Ref sig .tc := ⟨.hbm, 317, rfl⟩
abbrev main_v235 : Ref sig .tc := ⟨.hbm, 318, rfl⟩
abbrev main_values_79 : Ref sig .tc := ⟨.hbm, 319, rfl⟩
abbrev main_indices_80 : Ref sig .tc := ⟨.hbm, 320, rfl⟩
abbrev main_v236 : Ref sig .tc := ⟨.hbm, 321, rfl⟩
abbrev main_values_81 : Ref sig .tc := ⟨.hbm, 322, rfl⟩
abbrev main_indices_82 : Ref sig .tc := ⟨.hbm, 323, rfl⟩
abbrev main_cst_83 : Ref sig .tc := ⟨.hbm, 324, rfl⟩
abbrev main_v237 : Ref sig .tc := ⟨.hbm, 325, rfl⟩
abbrev main_cst_84 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩
abbrev main_v246 : Ref sig .tc := ⟨.hbm, 335, rfl⟩
abbrev main_v247 : Ref sig .tc := ⟨.hbm, 336, rfl⟩
abbrev main_v248 : Ref sig .tc := ⟨.hbm, 337, rfl⟩
abbrev main_v249 : Ref sig .tc := ⟨.hbm, 338, rfl⟩

abbrev nD : Nat := 1
abbrev τ : Topo := Topo.v7x

variable {F : FTy → Type} [FloatOps F]
-- ==== Proof.Vals.lean ====
module

public import proofs.«01_k».proof.Proof.Gen.KernelIdeal.Frame
public import proofs.«01_k».proof.Proof.Gen.KernelIdeal.Skeleton
public import Idealize.ShloMosaic.Lib.Pipeline.ValueKit

/-! The values of the kernel's body, at any float type: what the first point keeps of the images, the dot product of all patches
with one image's, and a row of scores swept out of that dot product. -/

@[expose] public section

noncomputable section

namespace Cert.KernelIdeal.Run

open Cert.KernelIdeal Cert.KernelIdeal.Gen
open Idealize.ShloMosaic

variable {F : FTy → Type} [FloatOps F]

/-! ## The blocks of image `r` in each buffer -/

/-- Image `r` of the input, and of the patches kept by image. -/
def rImg (r : Fin 8) : Rect S8x576x768 :=
  Rect.unit (s := S8x576x768) ![r.val, 0, 0] S1x576x768.size (by revert r; decide)
/-- Image `r`'s rows of the patches kept as rows. -/
def rRows (r : Fin 8) : Rect S4608x768 :=
  Rect.unit (s := S4608x768) ![576 * r.val, 0] S576x768.size (by revert r; decide)
/-- Image `r`'s part of the column of half norms. -/
def rCol (r : Fin 8) : Rect S4608x1 :=
  Rect.unit (s := S4608x1) ![576 * r.val, 0] S576x1.size (by revert r; decide)
/-- Image `r`'s row, of the half norms kept by row and of the scores. -/
def rRow (r : Fin 8) : Rect S8x1x576 :=
  Rect.unit (s := S8x1x576) ![r.val, 0, 0] S1x1x576.size (by revert r; decide)
/-- Image `r`'s rows of a dot product. -/
def rDot (r : Fin 8) : Rect S4608x576 :=
  Rect.unit (s := S4608x576) ![576 * r.val, 0] S576x576.size (by revert r; decide)

/-! ## What the first point keeps of one image -/

/-- The image's patches, one a row. -/
def patches (z : Vec F S1x576x768 .f32) : FVec F S576x768 .f32 := shapeCast S576x768 z shapeCasts_S1x576x768_S576x768
/-- Half of the square of each entry. -/
def halfSq (z : Vec F S1x576x768 .f32) : FVec F S576x768 .f32 :=
  mulf (broadcast S576x768 (Scalar.ofBits .f32 0x3F000000#32)) (mulf (patches z) (patches z))
/-- The patches narrowed, kept as rows. -/
def keepRows (z : Vec F S1x576x768 .f32) : FVec F S576x768 .bf16 :=
  shapeCast S576x768 (truncf .bf16 (patches z) bitsLt_bf16_f32) shapeCasts_S576x768_S576x768
/-- The patches narrowed, kept as an image. -/
def keepImg (z : Vec F S1x576x768 .f32) : FVec F S1x576x768 .bf16 :=
  shapeCast S1x576x768 (truncf .bf16 (patches z) bitsLt_bf16_f32) shapeCasts_S576x768_S1x576x768
/-- Half of each patch's squared norm, down a column, narrowed. -/
def keepCol (z : Vec F S1x576x768 .f32) : FVec F S576x1 .bf16 :=
  shapeCast S576x1 (truncf .bf16 (shapeCast S576x1
    (multiReduction .add [1] S576 (halfSq z) 0x00000000#32 reduces_S576x768_S576 (.inl rfl) rfl) shapeCasts_S576_S576x1)
      bitsLt_bf16_f32) shapeCasts_S576x1_S576x1
/-- Half of each patch's squared norm, along a row. -/
def keepRow (z : Vec F S1x576x768 .f32) : FVec F S1x1x576 .f32 :=
  shapeCast S1x1x576 (matmul dot_S1x768_S576x768_S1x576_1_1_0_0_n_n none
    (broadcast S1x768 (Scalar.ofBits .f32 0x3F800000#32)) (halfSq z) (constant S1x576 .f32 0x00000000#32)) shapeCasts_S1x576_S1x1x576

/-! ## A dot product, and a row of scores -/

/-- Every patch against the patches of one image. -/
def dotV (Z2 : Vec F S4608x768 .bf16) (z : Vec F S1x576x768 .bf16) : FVec F S4608x576 .bf16 :=
  shapeCast S4608x576 (truncf .bf16 (matmul dot_S4608x768_S576x768_S4608x576_1_1_0_0_n_n none Z2
    (shapeCast S576x768 z shapeCasts_S1x576x768_S576x768) (constant S4608x576 .f32 0x00000000#32)) bitsLt_bf16_f32)
      shapeCasts_S4608x576_S4608x576

/-- The squared distances from the row's patches to the nearest patch of image `j`; `+∞` where `j` is the row's own image. -/
def nearest (own j : BitVec 32) (a : Vec F S1x1x576 .f32) (b : Vec F S576x1 .bf16) (h : Vec F S576x576 .bf16) : FVec F S1x576 .f32 :=
  Scalar.select (Scalar.cmpi .eq own j) (broadcast S1x576 (Scalar.ofBits .f32 0x7F800000#32))
    (maximumf (mulf (broadcast S1x576 (Scalar.ofBits .f32 0x40000000#32))
      (addf (shapeCast S1x576 a shapeCasts_S1x1x576_S1x576)
        (extf .f32 (shapeCast S1x576 (multiReduction .minimumf [0] S576
          (subf (broadcastTo S576x576 b broadcasts_S576x1_S576x576) h) 0x7F80#16 reduces_S576x576_S576 (.inr rfl) rfl)
            shapeCasts_S576_S1x576) bitsLt_bf16_f32)))
      (broadcast S1x576 (Scalar.ofBits .f32 0x00000000#32)))

/-- One step of the sweep for the two smallest: from the smallest and the second smallest so far and the next value. -/
def sweepStep (p : FVec F S1x576 .f32 × FVec F S1x576 .f32) (v : FVec F S1x576 .f32) : FVec F S1x576 .f32 × FVec F S1x576 .f32 :=
  (minimumf p.1 v, minimumf p.2 (maximumf p.1 v))

/-- The two smallest of the eight images' distances, from a pair of `+∞`. -/
def sweep (own : BitVec 32) (a : Vec F S1x1x576 .f32) (Bb : Vec F S4608x1 .bf16) (H : Vec F S4608x576 .bf16) :
    FVec F S1x576 .f32 × FVec F S1x576 .f32 :=
  ([0, 1, 2, 3, 4, 5, 6, 7] : List (Fin 8)).foldl
    (fun p j => sweepStep p (nearest own (BitVec.ofNat 32 j.val) a (View.ld Bb (rCol j)) (View.ld H (rDot j))))
    (broadcast S1x576 (Scalar.ofBits .f32 0x7F800000#32), broadcast S1x576 (Scalar.ofBits .f32 0x7F800000#32))

/-- Half the sum of the square roots of the two smallest. -/
def halfRoots (p : FVec F S1x576 .f32 × FVec F S1x576 .f32) : FVec F S1x1x576 .f32 :=
  shapeCast S1x1x576 (mulf (broadcast S1x576 (Scalar.ofBits .f32 0x3F000000#32)) (addf (sqrt p.1) (sqrt p.2))) shapeCasts_S1x576_S1x1x576

/-- The row of scores of image `own`. -/
def rowV (own : BitVec 32) (a : Vec F S1x1x576 .f32) (Bb : Vec F S4608x1 .bf16) (H : Vec F S4608x576 .bf16) : FVec F S1x1x576 .f32 :=
  halfRoots (sweep own a Bb H)

/-! ## Contents block by block -/

/-- Two blocks that meet are one. -/
def Apart {s : Shape} (rect : Fin 8 → Rect s) : Prop :=
  ∀ r r' (x : (rect r).shape.Idx) (x' : (rect r').shape.Idx), (rect r).emb x = (rect r').emb x' → r = r'

/-- Blocks that lie one after the other along an axis are apart. -/
theorem apart_of_axis {s : Shape} (off : Fin 8 → Fin s.rank → ℕ) (size : Fin s.rank → ℕ) (inb : ∀ r a, off r a + size a ≤ s.size a)
    (a : Fin s.rank) (n : ℕ) (hn : size a = n) (ho : ∀ r, off r a = n * r.val) :
    Apart fun r => Rect.unit (s := s) (off r) size (inb r) := by
  intro r r' x x' h
  have e := congrArg (fun y => (y a : ℕ)) h
  simp only [ValueKit.rect_emb_unit_val] at e
  have hx : (x a : ℕ) < n := hn ▸ (x a).isLt
  have hx' : (x' a : ℕ) < n := hn ▸ (x' a).isLt
  rw [ho, ho] at e
  have h1 := congrArg (· / n) e
  have hpos : 0 < n := by omega
  simp only [Nat.mul_add_div hpos, Nat.div_eq_of_lt hx, Nat.div_eq_of_lt hx', Nat.add_zero] at h1
  exact Fin.ext h1

/-- The images lie apart, and likewise (below) the blocks of rows, of the column and of the scores. -/
theorem apart_rImg : Apart rImg := apart_of_axis (s := S8x576x768) (fun r => ![r.val, 0, 0]) S1x576x768.size _ (0 : Fin 3) 1 rfl fun r => (Nat.one_mul _).symm
theorem apart_rRows : Apart rRows := apart_of_axis (s := S4608x768) (fun r => ![576 * r.val, 0]) S576x768.size _ (0 : Fin 2) 576 rfl fun r => rfl
theorem apart_rCol : Apart rCol := apart_of_axis (s := S4608x1) (fun r => ![576 * r.val, 0]) S576x1.size _ (0 : Fin 2) 576 rfl fun r => rfl
theorem apart_rRow : Apart rRow := apart_of_axis (s := S8x1x576) (fun r => ![r.val, 0, 0]) S1x1x576.size _ (0 : Fin 3) 1 rfl fun r => (Nat.one_mul _).symm

/-- After the eight blocks are written one after the other, each reads what was written there. -/
theorem ld_of_writes {sig' : RefSig} {κ : Kind} {sp : Space} {s : Shape} {e : EltTy} {Val : EltTy → Type} (v : View sig' κ sp s e)
    (g : v.ty.Contents Val) (rect : Fin 8 → Rect s) (h : Apart rect) (f : (r : Fin 8) → (rect r).shape.Idx → Val e) (r : Fin 8) :
    View.ld (v.read Val (v.writes Val g
      (([7, 6, 5, 4, 3, 2, 1, 0] : List (Fin 8)).map fun r => (⟨rect r, f r⟩ : View.Piece Val s e)))) (rect r) = f r := by
  funext x
  classical
  have hG : ∀ r x, (if h : ∃ p : (r : Fin 8) × (rect r).shape.Idx, (rect p.1).emb p.2 = (rect r).emb x then f h.choose.1 h.choose.2
      else f r x) = f r x := by
    intro r x
    have hp : ∃ p : (r : Fin 8) × (rect r).shape.Idx, (rect p.1).emb p.2 = (rect r).emb x := ⟨⟨r, x⟩, rfl⟩
    rw [dif_pos hp]
    have hs := hp.choose_spec
    generalize hp.choose = q at hs
    obtain ⟨r', x'⟩ := q
    obtain rfl := h _ _ _ _ hs
    rw [(rect r').emb.injective hs]
  refine (View.read_writes_apply_of_pieces v g (fun y => if h : ∃ p : (r : Fin 8) × (rect r).shape.Idx, (rect p.1).emb p.2 = y then
    f h.choose.1 h.choose.2 else v.read Val g y) _ ?_ ((rect r).emb x) ?_).trans ?_
  · intro p hp x
    obtain ⟨r, -, rfl⟩ := List.mem_map.mp hp
    have e := hG r x
    have hp : ∃ p : (r : Fin 8) × (rect r).shape.Idx, (rect p.1).emb p.2 = (rect r).emb x := ⟨⟨r, x⟩, rfl⟩
    rw [dif_pos hp] at e
    exact ((dif_pos hp).trans e).symm
  · exact ⟨_, List.mem_map.mpr ⟨r, by fin_cases r <;> decide, rfl⟩, by rw [← Rect.map_emb_univ]; exact Finset.mem_map_of_mem _ (Finset.mem_univ x)⟩
  · have e := hG r x
    have hp : ∃ p : (r : Fin 8) × (rect r).shape.Idx, (rect p.1).emb p.2 = (rect r).emb x := ⟨⟨r, x⟩, rfl⟩
    rw [dif_pos hp] at e
    exact (dif_pos hp).trans e

/-- The kept buffers hold what the first point keeps of the images `X`. -/
structure Kept (X : Vec F S8x576x768 .f32) (Z2 : Vec F S4608x768 .bf16) (Z3 : Vec F S8x576x768 .bf16) (Bb : Vec F S4608x1 .bf16)
    (A : Vec F S8x1x576 .f32) : Prop where
  rows : ∀ r, View.ld Z2 (rRows r) = keepRows (View.ld X (rImg r))
  imgs : ∀ r, View.ld Z3 (rImg r) = keepImg (View.ld X (rImg r))
  cols : ∀ r, View.ld Bb (rCol r) = keepCol (View.ld X (rImg r))
  norms : ∀ r, View.ld A (rRow r) = keepRow (View.ld X (rImg r))

end Cert.KernelIdeal.Run
-- ==== Proof.Body.lean ====
module

public import proofs.«01_k».proof.Proof.Vals
public import Idealize.ShloMosaic.Lib.VecWindow

/-! The body run at each kind of grid point: the first, the odd ones, the even ones after the first. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scratch buffers, whole: the patches as rows, the patches by image, the half norms down a column (twice), the half
    norms along a row, and the two dot products. -/
abbrev mZ2 : Memref sig .tc .vmem S4608x768 .bf16 := Memref.whole cc0_scratch0
abbrev mZ3 : Memref sig .tc .vmem S8x576x768 .bf16 := Memref.whole cc0_scratch1
abbrev mB : Memref sig .tc .vmem S4608x1 .f32 := Memref.whole cc0_scratch2
abbrev mBb : Memref sig .tc .vmem S4608x1 .bf16 := Memref.whole cc0_scratch3
abbrev mA : Memref sig .tc .vmem S8x1x576 .f32 := Memref.whole cc0_scratch4
abbrev mH0 : Memref sig .tc .vmem S4608x576 .bf16 := Memref.whole cc0_scratch5
abbrev mH1 : Memref sig .tc .vmem S4608x576 .bf16 := Memref.whole cc0_scratch6

/-- What a buffer behind a memref holds, and the buffer held whole at it. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦[M.view.set]{fullShare} f

/-- The kernel body on its scratch buffers. -/
abbrev body (i : grid0.Coords) (arg1 : Memref sig .tc .vmem S8x576x768 .f32) (harg1 : arg1.IsWhole)
    (arg2 : Memref sig .tc .vmem S8x1x576 .f32) (harg2 : arg2.IsWhole) : Prog (TpuEff nD τ sig (Elt F) Λ₀ .tc) PUnit :=
  cc0__msm_kernel i arg1 harg1 arg2 harg2 mZ2 (Memref.isWhole_whole _) mZ3 (Memref.isWhole_whole _) mB (Memref.isWhole_whole _)
    mBb (Memref.isWhole_whole _) mA (Memref.isWhole_whole _) mH0 (Memref.isWhole_whole _) mH1 (Memref.isWhole_whole _)

/-- The condition of the prologue. -/
abbrev cond1 (i : grid0.Coords) : BitVec 1 :=
  Scalar.cmpi .ne (Scalar.extui (Scalar.cmpi .eq (BitVec.ofNat 32 (i 0).val) 0#32) : BitVec 32) 0#32

/-- What a buffer reads whose last write was of the whole of it. -/
theorem read_whole_write {sig' : RefSig} {κ : Kind} {sp : Space} {s : Shape} {e : EltTy} {Val : EltTy → Type} (v : View sig' κ sp s e)
    (g : v.ty.Contents Val) (off : Fin s.rank → ℕ) (inb : ∀ a, off a + s.size a ≤ s.size a) (w : s.Idx → Val e) (L : List (View.Piece Val s e)) :
    v.read Val (v.writes Val g ((⟨Rect.unit off s.size inb, w⟩ : View.Piece Val s e) :: L)) = w := by
  funext y
  have h := View.read_writes_cons_emb v g (Rect.unit off s.size inb) w L y
  rwa [Rect.emb_unit_full] at h

/-- A load of the whole of a buffer. -/
theorem ld_whole {s : Shape} {e : EltTy} {Val : EltTy → Type} (Y : s.Idx → Val e) (off : Fin s.rank → ℕ)
    (inb : ∀ a, off a + s.size a ≤ s.size a) : View.ld Y (Rect.unit off s.size inb) = Y :=
  funext fun y => congrArg Y (Rect.emb_unit_full inb y)

/-- One row of the scores overwritten: the row reads what was stored, and what lies outside is as it was. -/
def RowSet (r : Rect S8x1x576) (w : r.shape.Idx → Elt F .f32) (O O' : Vec F S8x1x576 .f32) : Prop :=
  (∀ x, O' (r.emb x) = w x) ∧ ∀ y, y ∉ r.set → O' y = O y

/-- Storing one row overwrites that row. -/
theorem rowSet_write {sig' : RefSig} {κ : Kind} {sp : Space} (v : View sig' κ sp S8x1x576 .f32) (g : v.ty.Contents (Elt F))
    (r : Rect S8x1x576) (w : r.shape.Idx → Elt F .f32) :
    RowSet r w (v.read (Elt F) g) (v.read (Elt F) (v.writes (Elt F) g [(⟨r, w⟩ : View.Piece (Elt F) S8x1x576 .f32)])) :=
  ⟨fun x => View.read_writes_cons_emb v g r w [] x, fun y hy => View.read_writes_cons_miss v g _ [] y hy⟩

/-- The image whose scores a point stores, as the body computes it. -/
abbrev ownOf (i : grid0.Coords) : BitVec 32 := Scalar.maxsi (Scalar.subi (BitVec.ofNat 32 (i 0).val) 1#32) 0#32

/-- The scratch buffers, each held at contents. -/
abbrev scr (c : Dev nD) (Z2 : Vec F S4608x768 .bf16) (Z3 : Vec F S8x576x768 .bf16) (B : Vec F S4608x1 .f32) (Bb : Vec F S4608x1 .bf16)
    (A : Vec F S8x1x576 .f32) (H0 H1 : Vec F S4608x576 .bf16) : sProp 𝕄 :=
  iprop(owns (c : Thread nD τ) mZ2 fullShare Z2 ∗ owns (c : Thread nD τ) mZ3 fullShare Z3 ∗ owns (c : Thread nD τ) mB fullShare B
    ∗ owns (c : Thread nD τ) mBb fullShare Bb ∗ owns (c : Thread nD τ) mA fullShare A ∗ owns (c : Thread nD τ) mH0 fullShare H0
    ∗ owns (c : Thread nD τ) mH1 fullShare H1)

/-- An odd point: the second dot product is overwritten, and a row of scores is stored from the first. -/
theorem run_odd (c : Dev nD) (i : grid0.Coords) (h1 : ¬ cond1 i = 1#1) (h2 : ¬ k0_cond2 i = 1#1) (h3 : k0_cond3 i = 1#1)
    (arg1 : Memref sig .tc .vmem S8x576x768 .f32) (harg1 : arg1.IsWhole) (arg2 : Memref sig .tc .vmem S8x1x576 .f32) (harg2 : arg2.IsWhole)
    (X : Vec F S8x576x768 .f32) (O : Vec F S8x1x576 .f32) (Z2 : Vec F S4608x768 .bf16) (Z3 : Vec F S8x576x768 .bf16)
    (B : Vec F S4608x1 .f32) (Bb : Vec F S4608x1 .bf16) (A : Vec F S8x1x576 .f32) (H0 H1 : Vec F S4608x576 .bf16)
    (W : Waits sig Unit) (K : PUnit → sProp 𝕄) :
    iprop(owns (c : Thread nD τ) arg1 fullShare X ∗ owns (c : Thread nD τ) arg2 fullShare O ∗ scr c Z2 Z3 B Bb A H0 H1
        ∗ owes (c : Thread nD τ) 0 W
        ∗ (iprop(owns (c : Thread nD τ) arg1 fullShare X
            ∗ (∃ O', ⌜RowSet (Rect.unit (s := S8x1x576) (k0_off4 i) S1x1x576.size (k0_off4_inb i h3))
                (rowV (ownOf i) (View.ld A (Rect.unit (s := S8x1x576) (k0_off4 i) S1x1x576.size (k0_off4_inb i h3))) Bb H0) O O'⌝
              ∗ owns (c : Thread nD τ) arg2 fullShare O')
            ∗ scr c Z2 Z3 B Bb A H0 (dotV Z2 (View.ld Z3 (Rect.unit (s := S8x576x768) (k0_off3 i) S1x576x768.size (k0_off3_inb i h3))))
            ∗ owes (c : Thread nD τ) 0 W) -∗ K ⟨⟩))
      ⊢ wp frame (wpE (defs₀ (F := F)) Variants.none c none) Set.univ (body i arg1 harg1 arg2 harg2) K := by
  unfold body
  simp only [cc0__msm_kernel_eq_skeleton]; unfold cc0__msm_kernel_skel
  unfold scr owns
  iintro ⟨⟨%g1, %e1, H1⟩, ⟨%g2, %e2, H2⟩, ⟨⟨%fz2, %ez2, Hz2⟩, ⟨%fz3, %ez3, Hz3⟩, ⟨%fb, %eb, Hb⟩, ⟨%fbb, %ebb, Hbb⟩, ⟨%fa, %ea, Ha⟩,
    ⟨%fh0, %eh0, Hh0⟩, ⟨%fh1, %eh1, Hh1⟩⟩, HW, Hk⟩
  subst e1 e2 ez2 ez3 eb ebb ea eh0 eh1
  sl_exec!
  sl_step
  iapply Hk
  isplitl [H1]
  · iexists _; isplitr; swap; · iexact H1
    ipureintro; rfl
  isplitl [H2]
  · iexists _; isplitr
    · ipureintro; exact rowSet_write arg2.view g2 _ _
    iexists _; isplitr; swap; · iexact H2
    ipureintro; rfl
  isplitr [HW]; swap; · iexact HW
  isplitl [Hz2]
  · iexists _; isplitr; swap; · iexact Hz2
    ipureintro; rfl
  isplitl [Hz3]
  · iexists _; isplitr; swap; · iexact Hz3
    ipureintro; rfl
  isplitl [Hb]
  · iexists _; isplitr; swap; · iexact Hb
    ipureintro; rfl
  isplitl [Hbb]
  · iexists _; isplitr; swap; · iexact Hbb
    ipureintro; rfl
  isplitl [Ha]
  · iexists _; isplitr; swap; · iexact Ha
    ipureintro; rfl
  isplitl [Hh0]
  · iexists _; isplitr; swap; · iexact Hh0
    ipureintro; rfl
  · iexists _; isplitr; swap; · iexact Hh1
    ipureintro
    unfold run_odd.sl.Hh1_1
    exact (read_whole_write (Val := Elt F) mH1.view _ _ _ _ _).trans (congrArg (fun Z => dotV Z _) (ld_whole _ _ _))

/-- An even point after the first: the first dot product is overwritten, and a row of scores is stored from the second. -/
theorem run_even (c : Dev nD) (i : grid0.Coords) (h1 : ¬ cond1 i = 1#1) (h2 : k0_cond2 i = 1#1) (h3 : ¬ k0_cond3 i = 1#1)
    (arg1 : Memref sig .tc .vmem S8x576x768 .f32) (harg1 : arg1.IsWhole) (arg2 : Memref sig .tc .vmem S8x1x576 .f32) (harg2 : arg2.IsWhole)
    (X : Vec F S8x576x768 .f32) (O : Vec F S8x1x576 .f32) (Z2 : Vec F S4608x768 .bf16) (Z3 : Vec F S8x576x768 .bf16)
    (B : Vec F S4608x1 .f32) (Bb : Vec F S4608x1 .bf16) (A : Vec F S8x1x576 .f32) (H0 H1 : Vec F S4608x576 .bf16)
    (W : Waits sig Unit) (K : PUnit → sProp 𝕄) :
    iprop(owns (c : Thread nD τ) arg1 fullShare X ∗ owns (c : Thread nD τ) arg2 fullShare O ∗ scr c Z2 Z3 B Bb A H0 H1
        ∗ owes (c : Thread nD τ) 0 W
        ∗ (iprop(owns (c : Thread nD τ) arg1 fullShare X
            ∗ (∃ O', ⌜RowSet (Rect.unit (s := S8x1x576) (k0_off2 i) S1x1x576.size (k0_off2_inb i h2))
                (rowV (ownOf i) (View.ld A (Rect.unit (s := S8x1x576) (k0_off2 i) S1x1x576.size (k0_off2_inb i h2))) Bb H1) O O'⌝
              ∗ owns (c : Thread nD τ) arg2 fullShare O')
            ∗ scr c Z2 Z3 B Bb A (dotV Z2 (View.ld Z3 (Rect.unit (s := S8x576x768) (k0_off1 i) S1x576x768.size (k0_off1_inb i h2)))) H1
            ∗ owes (c : Thread nD τ) 0 W) -∗ K ⟨⟩))
      ⊢ wp frame (wpE (defs₀ (F := F)) Variants.none c none) Set.univ (body i arg1 harg1 arg2 harg2) K := by
  unfold body
  simp only [cc0__msm_kernel_eq_skeleton]; unfold cc0__msm_kernel_skel
  unfold scr owns
  iintro ⟨⟨%g1, %e1, H1⟩, ⟨%g2, %e2, H2⟩, ⟨⟨%fz2, %ez2, Hz2⟩, ⟨%fz3, %ez3, Hz3⟩, ⟨%fb, %eb, Hb⟩, ⟨%fbb, %ebb, Hbb⟩, ⟨%fa, %ea, Ha⟩,
    ⟨%fh0, %eh0, Hh0⟩, ⟨%fh1, %eh1, Hh1⟩⟩, HW, Hk⟩
  subst e1 e2 ez2 ez3 eb ebb ea eh0 eh1
  sl_exec!
  sl_step
  iapply Hk
  isplitl [H1]
  · iexists _; isplitr; swap; · iexact H1
    ipureintro; rfl
  isplitl [H2]
  · iexists _; isplitr
    · ipureintro; exact rowSet_write arg2.view g2 _ _
    iexists _; isplitr; swap; · iexact H2
    ipureintro; rfl
  isplitr [HW]; swap; · iexact HW
  isplitl [Hz2]
  · iexists _; isplitr; swap; · iexact Hz2
    ipureintro; rfl
  isplitl [Hz3]
  · iexists _; isplitr; swap; · iexact Hz3
    ipureintro; rfl
  isplitl [Hb]
  · iexists _; isplitr; swap; · iexact Hb
    ipureintro; rfl
  isplitl [Hbb]
  · iexists _; isplitr; swap; · iexact Hbb
    ipureintro; rfl
  isplitl [Ha]
  · iexists _; isplitr; swap; · iexact Ha
    ipureintro; rfl
  isplitl [Hh0]
  · iexists _; isplitr; swap; · iexact Hh0
    ipureintro
    unfold run_even.sl.Hh0_1
    exact (read_whole_write (Val := Elt F) mH0.view _ _ _ _ _).trans (congrArg (fun Z => dotV Z _) (ld_whole _ _ _))
  · iexists _; isplitr; swap; · iexact Hh1
    ipureintro; rfl

/-- The first point. -/
def i0 : grid0.Coords := grid0.coords t0_0
instance : ClosedOff (k0_off1 i0) := ⟨![0, 0, 0], by decide +kernel⟩
instance : ClosedOff (k0_off2 i0) := ⟨![0, 0, 0], by decide +kernel⟩
/-- The first point keeps the images; it is an even point. -/
theorem cond1_i0 : cond1 i0 = 1#1 := by decide +kernel
theorem cond2_i0 : k0_cond2 i0 = 1#1 := by decide +kernel
theorem cond3_i0 : ¬ k0_cond3 i0 = 1#1 := by decide +kernel

/-- The first point: the images are kept, and the first dot product is written. -/
theorem run_first (c : Dev nD)
    (arg1 : Memref sig .tc .vmem S8x576x768 .f32) (harg1 : arg1.IsWhole) (arg2 : Memref sig .tc .vmem S8x1x576 .f32) (harg2 : arg2.IsWhole)
    (X : Vec F S8x576x768 .f32) (O : Vec F S8x1x576 .f32) (Z2 : Vec F S4608x768 .bf16) (Z3 : Vec F S8x576x768 .bf16)
    (B : Vec F S4608x1 .f32) (Bb : Vec F S4608x1 .bf16) (A : Vec F S8x1x576 .f32) (H0 H1 : Vec F S4608x576 .bf16)
    (W : Waits sig Unit) (K : PUnit → sProp 𝕄) :
    iprop(owns (c : Thread nD τ) arg1 fullShare X ∗ owns (c : Thread nD τ) arg2 fullShare O ∗ scr c Z2 Z3 B Bb A H0 H1
        ∗ owes (c : Thread nD τ) 0 W
        ∗ (iprop(owns (c : Thread nD τ) arg1 fullShare X
            ∗ (∃ O', owns (c : Thread nD τ) arg2 fullShare O')
            ∗ (∃ Z2' Z3' B' Bb' A' H1', ⌜Kept X Z2' Z3' Bb' A'⌝ ∗ scr c Z2' Z3' B' Bb' A' (dotV Z2' (View.ld Z3' (rImg 0))) H1')
            ∗ owes (c : Thread nD τ) 0 W) -∗ K ⟨⟩))
      ⊢ wp frame (wpE (defs₀ (F := F)) Variants.none c none) Set.univ (body i0 arg1 harg1 arg2 harg2) K := by
  unfold body
  simp only [cc0__msm_kernel_eq_skeleton]; unfold cc0__msm_kernel_skel
  unfold scr owns
  iintro ⟨⟨%g1, %e1, H1⟩, ⟨%g2, %e2, H2⟩, ⟨⟨%fz2, %ez2, Hz2⟩, ⟨%fz3, %ez3, Hz3⟩, ⟨%fb, %eb, Hb⟩, ⟨%fbb, %ebb, Hbb⟩, ⟨%fa, %ea, Ha⟩,
    ⟨%fh0, %eh0, Hh0⟩, ⟨%fh1, %eh1, Hh1⟩⟩, HW, Hk⟩
  subst e1 e2 ez2 ez3 eb ebb ea eh0 eh1
  have h1 := cond1_i0
  have h2 := cond2_i0
  have h3 := cond3_i0
  sl_exec!
  sl_step
  iapply Hk
  isplitl [H1]
  · iexists _; isplitr; swap; · iexact H1
    ipureintro; rfl
  isplitl [H2]
  · iexists _, _; isplitr; swap; · iexact H2
    ipureintro; rfl
  isplitr [HW]; swap; · iexact HW
  iexists _, _, _, _, _, _
  isplitr
  · ipureintro
    exact ⟨fun r => ld_of_writes (Val := Elt F) mZ2.view mZ2.view.junk rRows apart_rRows (fun r => keepRows (View.ld (arg1.view.read (Elt F) g1) (rImg r))) r,
      fun r => ld_of_writes (Val := Elt F) mZ3.view mZ3.view.junk rImg apart_rImg (fun r => keepImg (View.ld (arg1.view.read (Elt F) g1) (rImg r))) r,
      fun r => ld_of_writes (Val := Elt F) mBb.view mBb.view.junk rCol apart_rCol (fun r => keepCol (View.ld (arg1.view.read (Elt F) g1) (rImg r))) r,
      fun r => ld_of_writes (Val := Elt F) mA.view mA.view.junk rRow apart_rRow (fun r => keepRow (View.ld (arg1.view.read (Elt F) g1) (rImg r))) r⟩
  isplitl [Hz2]
  · iexists _; isplitr; swap; · iexact Hz2
    ipureintro; rfl
  isplitl [Hz3]
  · iexists _; isplitr; swap; · iexact Hz3
    ipureintro; rfl
  isplitl [Hb]
  · iexists _; isplitr; swap; · iexact Hb
    ipureintro; rfl
  isplitl [Hbb]
  · iexists _; isplitr; swap; · iexact Hbb
    ipureintro; rfl
  isplitl [Ha]
  · iexists _; isplitr; swap; · iexact Ha
    ipureintro; rfl
  isplitl [Hh0]
  · iexists _; isplitr; swap; · iexact Hh0
    ipureintro
    unfold run_first.sl.Hh0_2
    exact (read_whole_write (Val := Elt F) mH0.view _ _ _ _ _).trans (congrArg (fun Z => dotV Z _) (ld_whole _ _ _))
  · iexists _; isplitr; swap; · iexact Hh1
    ipureintro; rfl

end Cert.KernelIdeal.Run
-- ==== Proof.Run.lean ====
module

public import proofs.«01_k».proof.Proof.Body
public import Idealize.ShloMosaic.Lib.Pipeline.FrameBody
public import Idealize.ShloMosaic.Lib.Pipeline.ArrRel
public import Idealize.ShloMosaic.Lib.Pipeline.DatRel

/-! The whole run: from any memory the kernel terminates, its argument unchanged and every semaphore at zero, and each row of the
scores is the row computed from what the first point keeps of the images. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Rows of scores -/

/-- The image whose dot product is written at point `k`. -/
def dotImg (k : ℕ) : Fin 8 := ⟨min k 7, by omega⟩

/-- `w` is image `r`'s row of scores, computed from what the first point keeps of the images `X`. -/
def Score (X : Vec F S8x576x768 .f32) (r : Fin 8) (w : FVec F S1x1x576 .f32) : Prop :=
  ∃ Z2 Z3 Bb A, Kept X Z2 Z3 Bb A
    ∧ w = rowV (BitVec.ofNat 32 r.val) (View.ld A (rRow r)) Bb (dotV Z2 (View.ld Z3 (rImg r)))

/-- The rows below `k` are scores. -/
def RowsDone (X : Vec F S8x576x768 .f32) (k : ℕ) (O : Vec F S8x1x576 .f32) : Prop :=
  ∀ r : Fin 8, r.val < k → Score X r (View.ld O (rRow r))

/-- A row stored at a unit rectangle is a row stored at the image's own rectangle. -/
theorem rowSet_at (r : Fin 8) (off : Fin 3 → ℕ) (h : off = ![r.val, 0, 0]) (inb : ∀ a, off a + S1x1x576.size a ≤ S8x1x576.size a)
    (w : FVec F S1x1x576 .f32) (O O' : Vec F S8x1x576 .f32)
    (hs : RowSet (Rect.unit (s := S8x1x576) off S1x1x576.size inb) w O O') : RowSet (rRow r) w O O' := by
  subst h; exact hs
/-- A row loaded at a unit rectangle is the row loaded at the image's own rectangle. -/
theorem ld_row_at (r : Fin 8) (off : Fin 3 → ℕ) (h : off = ![r.val, 0, 0]) (inb : ∀ a, off a + S1x1x576.size a ≤ S8x1x576.size a)
    (A : Vec F S8x1x576 .f32) : View.ld A (Rect.unit (s := S8x1x576) off S1x1x576.size inb) = View.ld A (rRow r) := by
  subst h; rfl
/-- So with an image. -/
theorem ld_img_at (r : Fin 8) (off : Fin 3 → ℕ) (h : off = ![r.val, 0, 0]) (inb : ∀ a, off a + S1x576x768.size a ≤ S8x576x768.size a)
    (Z : Vec F S8x576x768 .bf16) : View.ld Z (Rect.unit (s := S8x576x768) off S1x576x768.size inb) = View.ld Z (rImg r) := by
  subst h; rfl

/-- One more row done. -/
theorem rowsDone_succ (X : Vec F S8x576x768 .f32) (k : ℕ) (r : Fin 8) (hr : r.val = k) (w : FVec F S1x1x576 .f32) (hw : Score X r w)
    (O O' : Vec F S8x1x576 .f32) (hO : RowsDone X k O) (hs : RowSet (rRow r) w O O') : RowsDone X (k + 1) O' := by
  intro q hq
  by_cases h : q = r
  · subst h
    have e : View.ld O' (rRow q) = w := funext fun x => hs.1 x
    rw [e]; exact hw
  · have e : View.ld O' (rRow q) = View.ld O (rRow q) := funext fun x => hs.2 _ fun hm => by
      obtain ⟨x', hx'⟩ := (rRow r).exists_idx_of_mem hm
      exact h (apart_rRow _ _ _ _ hx').symm
    rw [e]
    exact hO q (by have : q.val ≠ r.val := fun e => h (Fin.ext e); omega)

/-! ## The points -/

/-- The conditions, the offsets and the own image of each of the nine points. -/
theorem cond1_iff : ∀ t : Fin grid0.N, cond1 (grid0.coords t) = 1#1 ↔ t.val = 0 := by decide +kernel
theorem cond2_iff : ∀ t : Fin grid0.N, k0_cond2 (grid0.coords t) = 1#1 ↔ t.val % 2 = 0 := by decide +kernel
theorem cond3_iff : ∀ t : Fin grid0.N, k0_cond3 (grid0.coords t) = 1#1 ↔ t.val % 2 = 1 := by decide +kernel
theorem off1_at : ∀ t : Fin grid0.N, k0_off1 (grid0.coords t) = ![min t.val 7, 0, 0] := by decide +kernel
theorem off2_at : ∀ t : Fin grid0.N, k0_off2 (grid0.coords t) = ![t.val - 1, 0, 0] := by decide +kernel
theorem off3_at : ∀ t : Fin grid0.N, k0_off3 (grid0.coords t) = ![min t.val 7, 0, 0] := by decide +kernel
theorem off4_at : ∀ t : Fin grid0.N, k0_off4 (grid0.coords t) = ![t.val - 1, 0, 0] := by decide +kernel
theorem own_at : ∀ t : Fin grid0.N, ownOf (grid0.coords t) = BitVec.ofNat 32 (t.val - 1) := by decide +kernel

/-! ## The proof data -/

/-- The images, as the first point's window holds them. -/
def imgs (c : Dev nD) : Vec F S8x576x768 .f32 := iblk m c 0 t0_0
/-- The input block of every point is the whole array of images. -/
theorem iblk_eq (c : Dev nD) (t : Fin cfg0.N) : iblk m c 0 t = imgs m c := by
  rcases fin_N0 t with h | h | h | h | h | h | h | h | h <;> subst h <;> rfl

/-- The dot product written at point `k`: the first buffer's at an even point, the second's at an odd one. -/
def cur (k : ℕ) (H0 H1 : Vec F S4608x576 .bf16) : Vec F S4608x576 .bf16 := if k % 2 = 0 then H0 else H1

/-- What the body carries from point to point: before the first point anything, after point `k` what the first point keeps of the
    images and the dot product point `k` wrote. -/
def carry (c : Dev nD) : ℕ → sProp 𝕄
  | 0 => Pipeline.ΦA spec0 c
  | k + 1 => iprop((∃ Z2 Z3 B Bb A H0 H1, ⌜Kept (imgs m c) Z2 Z3 Bb A ∧ cur k H0 H1 = dotV Z2 (View.ld Z3 (rImg (dotImg k)))⌝
      ∗ scr c Z2 Z3 B Bb A H0 H1) ∗ ∃ r, prngReg c r)

/-- What is carried into a later point. -/
theorem carry_succ (c : Dev nD) (k : ℕ) : carry m c (k + 1)
    = iprop((∃ Z2 Z3 B Bb A H0 H1, ⌜Kept (imgs m c) Z2 Z3 Bb A ∧ cur k H0 H1 = dotV Z2 (View.ld Z3 (rImg (dotImg k)))⌝
      ∗ scr c Z2 Z3 B Bb A H0 H1) ∗ ∃ r, prngReg c r) := rfl

/-- The class invariant, buffer by buffer. -/
theorem phiA_eq (c : Dev nD) : (Pipeline.ΦA spec0 c : sProp 𝕄)
    = iprop(iprop((∃ d, owns (c : Thread nD τ) mZ2 fullShare d) ∗ (∃ d, owns (c : Thread nD τ) mZ3 fullShare d)
        ∗ (∃ d, owns (c : Thread nD τ) mB fullShare d) ∗ (∃ d, owns (c : Thread nD τ) mBb fullShare d)
        ∗ (∃ d, owns (c : Thread nD τ) mA fullShare d) ∗ (∃ d, owns (c : Thread nD τ) mH0 fullShare d)
        ∗ (∃ d, owns (c : Thread nD τ) mH1 fullShare d)) ∗ ∃ r, prngReg c r) := by
  unfold Pipeline.ΦA
  rw [scopedRest0_eq]
  simp only [mZ2, mZ3, mB, mBb, mA, mH0, mH1, owns_whole]; try rfl

/-- After any point the scratch buffers may be forgotten. -/
theorem carry_forget (c : Dev nD) (k : ℕ) : carry m c k ⊢ Pipeline.ΦA spec0 c := by
  cases k with
  | zero => exact .rfl
  | succ k =>
    rw [phiA_eq]
    unfold carry
    iintro ⟨⟨%Z2, %Z3, %B, %Bb, %A, %H0, %H1, -, Hz2, Hz3, Hb, Hbb, Ha, Hh0, Hh1⟩, Hg⟩
    isplitr [Hg]; swap; · iexact Hg
    isplitl [Hz2]; · iexists _; iexact Hz2
    isplitl [Hz3]; · iexists _; iexact Hz3
    isplitl [Hb]; · iexists _; iexact Hb
    isplitl [Hbb]; · iexists _; iexact Hbb
    isplitl [Ha]; · iexists _; iexact Ha
    isplitl [Hh0]; · iexists _; iexact Hh0
    iexists _; iexact Hh1

/-- The exact part of the proof data: the arrays as the region finds them, the images left in place. -/
def dat (c : Dev nD) : Dat τ (Elt F) Unit ℕ (UR sig nD τ) ℕ cfg0 c where
  A w := V m c (Pipeline.arrRef spec0 w)
  after w t := match w with
    | 0 => iblk m c 0 t
    | 1 => iblk m c 1 t
    | ⟨_ + 2, h⟩ => absurd h (Nat.not_lt.2 (Nat.le_add_left _ _))
  Φ t := carry m c t.val
  q _ := fullShare
  owed _ := 0

/-- The scores' window is the one held to a predicate: -/
def marked : Fin cfg0.W → Bool := fun | 0 => false | 1 => true | ⟨_ + 2, h⟩ => absurd h (Nat.not_lt.2 (Nat.le_add_left _ _))
/-- after point `t` its rows below `t` are scores. -/
def held01 (c : Dev nD) (w : Fin cfg0.W) (t : Fin cfg0.N) : ((cfg0.win w).block.Idx → Elt F (cfg0.win w).elt) → Prop :=
  match w with
  | 0 => fun _ => True
  | 1 => fun O => RowsDone (imgs m c) t.val O
  | ⟨_ + 2, h⟩ => absurd h (Nat.not_lt.2 (Nat.le_add_left _ _))

abbrev rdat (c : Dev nD) : RDat τ (Elt F) Unit ℕ (UR sig nD τ) ℕ cfg0 c := (dat m c).toRRel marked (held01 m c)

/-- What the body finds in the scores' window after the first point: the rows done before. -/
theorem finds1 (c : Dev nD) (t : Fin cfg0.N) (k : ℕ) (ht : t.val = k + 1) (O : Vec F S8x1x576 .f32)
    (h : (rdat m c).Finds 1 t O) : RowsDone (imgs m c) k O := by
  rcases ((rdat m c).finds_of_pos (w := 1) (t := t) rfl (by omega) O).mp h with hf | hl
  · exfalso
    have e := (flush0_1 _).mp hf
    have hN : t.val < 9 := lt_of_lt_of_eq t.isLt N_0
    simp only at e
    omega
  · have := (dat m c).toRRel_leaves (w := 1) rfl hl
    have e : k = t.val - 1 := by omega
    rw [e]
    exact this

/-- Every point finds the images in the input window. -/
theorem before0 (c : Dev nD) (t : Fin cfg0.N) (d) : (dat m c).before 0 t d = imgs m c :=
  (before0_0_of m (dat m c) rfl (fun _ => rfl) t d).trans (iblk_eq m c t)

/-! ## The body at each point -/

def bodyPre (c : Dev nD) (t : Fin cfg0.N) : sProp 𝕄 :=
  iprop(carry m c t.val ∗ (dat m c).owesAt () t.castSucc ∗ (∃ d, owns (c : Thread nD τ) (st0_0 t) fullShare ((dat m c).before 0 t d))
    ∗ ∃ O, ⌜(rdat m c).Finds 1 t O⌝ ∗ owns (c : Thread nD τ) (st0_1 t) fullShare O)
def bodyPost (c : Dev nD) (t : Fin cfg0.N) : sProp 𝕄 :=
  iprop(carry m c (t.val + 1) ∗ (dat m c).owesAt () t.succ ∗ owns (c : Thread nD τ) (st0_0 t) fullShare (imgs m c)
    ∗ ∃ O, ⌜RowsDone (imgs m c) t.val O⌝ ∗ owns (c : Thread nD τ) (st0_1 t) fullShare O)

/-- The first point. -/
theorem point_first (c : Dev nD) :
    bodyPre m c t0_0 ⊢ wp frame (wpE (defs₀ (F := F)) Variants.none c none) Set.univ (bodyAt0 t0_0) (fun _ => bodyPost m c t0_0) := by
  unfold bodyPre bodyPost
  show iprop(Pipeline.ΦA spec0 c ∗ _ ∗ _ ∗ _) ⊢ _
  rw [phiA_eq, carry_succ]
  unfold Dat.owesAt Pipeline.owesWithin
  rw [show (dat m c).owed t0_0.castSucc = 0 from rfl, show (dat m c).owed t0_0.succ = 0 from rfl]
  simp only [before0]
  iintro ⟨⟨⟨⟨%Z2, Hz2⟩, ⟨%Z3, Hz3⟩, ⟨%B, Hb⟩, ⟨%Bb, Hbb⟩, ⟨%A, Ha⟩, ⟨%H0, Hh0⟩, ⟨%H1, Hh1⟩⟩, Hg⟩, ⟨%W, -, HW⟩, ⟨%d, HX⟩, ⟨%O, -, HO⟩⟩
  iapply (run_first c (st0_0 t0_0) (hstage0_0 ((cfg0.slots t0_0 0).cast nbuf0_0)) (st0_1 t0_0) (hstage0_1 ((cfg0.slots t0_0 1).cast nbuf0_1)) (imgs m c) O Z2 Z3 B Bb A H0 H1 W _)
  isplitl [HX]; · iexact HX
  isplitl [HO]; · iexact HO
  isplitl [Hz2 Hz3 Hb Hbb Ha Hh0 Hh1]
  · unfold scr
    isplitl [Hz2]; · iexact Hz2
    isplitl [Hz3]; · iexact Hz3
    isplitl [Hb]; · iexact Hb
    isplitl [Hbb]; · iexact Hbb
    isplitl [Ha]; · iexact Ha
    isplitl [Hh0]; · iexact Hh0
    iexact Hh1
  isplitl [HW]; · iexact HW
  iintro ⟨HX, ⟨%O', HO⟩, ⟨%Z2', %Z3', %B', %Bb', %A', %H1', %hK, Hs⟩, HW⟩
  isplitl [Hs Hg]
  · isplitl [Hs]
    · iexists _, _, _, _, _, _, _; isplitr; swap; · iexact Hs
      ipureintro; exact ⟨hK, rfl⟩
    iexact Hg
  isplitl [HW]
  · iexists W; isplitr; · ipureintro; exact fun _ _ => Or.inl trivial
    iexact HW
  isplitl [HX]; · iexact HX
  iexists O'; isplitr; swap; · iexact HO
  ipureintro
  exact fun r hr => absurd hr (Nat.not_lt_zero _)

/-- A later point: from what it finds, a row of scores is stored and the other dot product is written. -/
theorem point_later (c : Dev nD) (t : Fin cfg0.N) (k : ℕ) (ht : t.val = k + 1) :
    bodyPre m c t ⊢ wp frame (wpE (defs₀ (F := F)) Variants.none c none) Set.univ (bodyAt0 t) (fun _ => bodyPost m c t) := by
  have hN : t.val < 9 := lt_of_lt_of_eq t.isLt N_0
  have h1 : ¬ cond1 (grid0.coords t) = 1#1 := fun h => by have := (cond1_iff t).mp h; omega
  have hk : dotImg k = ⟨k, by omega⟩ := Fin.ext (min_eq_left (by omega : k ≤ 7))
  have hown : ownOf (grid0.coords t) = BitVec.ofNat 32 k := (own_at t).trans (by rw [ht]; rfl)
  unfold bodyPre bodyPost
  rw [ht, carry_succ, carry_succ]
  unfold Dat.owesAt Pipeline.owesWithin
  rw [show (dat m c).owed t.castSucc = 0 from rfl, show (dat m c).owed t.succ = 0 from rfl]
  simp only [before0]
  iintro ⟨⟨⟨%Z2, %Z3, %B, %Bb, %A, %H0, %H1, %hK, Hs⟩, Hg⟩, ⟨%W, -, HW⟩, ⟨%d, HX⟩, ⟨%O, %hO, HO⟩⟩
  obtain ⟨hK, hC⟩ := hK
  have hD := finds1 m c t k ht O hO
  rcases Nat.mod_two_eq_zero_or_one k with he | he
  · have h2 : ¬ k0_cond2 (grid0.coords t) = 1#1 := fun h => by have := (cond2_iff t).mp h; omega
    have h3 : k0_cond3 (grid0.coords t) = 1#1 := (cond3_iff t).mpr (by omega)
    iapply (run_odd c (grid0.coords t) h1 h2 h3 (st0_0 t) (hstage0_0 ((cfg0.slots t 0).cast nbuf0_0)) (st0_1 t)
      (hstage0_1 ((cfg0.slots t 1).cast nbuf0_1)) (imgs m c) O Z2 Z3 B Bb A H0 H1 W _)
    isplitl [HX]; · iexact HX
    isplitl [HO]; · iexact HO
    isplitl [Hs]; · iexact Hs
    isplitl [HW]; · iexact HW
    iintro ⟨HX, ⟨%O', %hR, HO⟩, Hs, HW⟩
    isplitl [Hs Hg]
    · isplitl [Hs]
      · iexists _, _, _, _, _, _, _; isplitr; swap; · iexact Hs
        ipureintro
        refine ⟨hK, ?_⟩
        rw [cur, if_neg (by omega), ld_img_at (dotImg (k + 1)) _ ((off3_at t).trans (by rw [ht]; rfl))]
      iexact Hg
    isplitl [HW]
    · iexists W; isplitr; · ipureintro; exact fun _ _ => Or.inl trivial
      iexact HW
    isplitl [HX]; · iexact HX
    iexists O'; isplitr; swap; · iexact HO
    ipureintro
    rw [cur, if_pos he, hk] at hC
    rw [hown, ld_row_at ⟨k, by omega⟩ _ ((off4_at t).trans (by rw [ht]; rfl)), hC] at hR
    exact rowsDone_succ _ k ⟨k, by omega⟩ rfl _ ⟨Z2, Z3, Bb, A, hK, rfl⟩ O O' hD
      (rowSet_at _ _ ((off4_at t).trans (by rw [ht]; rfl)) _ _ _ _ hR)
  · have h2 : k0_cond2 (grid0.coords t) = 1#1 := (cond2_iff t).mpr (by omega)
    have h3 : ¬ k0_cond3 (grid0.coords t) = 1#1 := fun h => by have := (cond3_iff t).mp h; omega
    iapply (run_even c (grid0.coords t) h1 h2 h3 (st0_0 t) (hstage0_0 ((cfg0.slots t 0).cast nbuf0_0)) (st0_1 t)
      (hstage0_1 ((cfg0.slots t 1).cast nbuf0_1)) (imgs m c) O Z2 Z3 B Bb A H0 H1 W _)
    isplitl [HX]; · iexact HX
    isplitl [HO]; · iexact HO
    isplitl [Hs]; · iexact Hs
    isplitl [HW]; · iexact HW
    iintro ⟨HX, ⟨%O', %hR, HO⟩, Hs, HW⟩
    isplitl [Hs Hg]
    · isplitl [Hs]
      · iexists _, _, _, _, _, _, _; isplitr; swap; · iexact Hs
        ipureintro
        refine ⟨hK, ?_⟩
        rw [cur, if_pos (by omega), ld_img_at (dotImg (k + 1)) _ ((off1_at t).trans (by rw [ht]; rfl))]
      iexact Hg
    isplitl [HW]
    · iexists W; isplitr; · ipureintro; exact fun _ _ => Or.inl trivial
      iexact HW
    isplitl [HX]; · iexact HX
    iexists O'; isplitr; swap; · iexact HO
    ipureintro
    rw [cur, if_neg (by omega), hk] at hC
    rw [hown, ld_row_at ⟨k, by omega⟩ _ ((off2_at t).trans (by rw [ht]; rfl)), hC] at hR
    exact rowsDone_succ _ k ⟨k, by omega⟩ rfl _ ⟨Z2, Z3, Bb, A, hK, rfl⟩ O O' hD
      (rowSet_at _ _ ((off2_at t).trans (by rw [ht]; rfl)) _ _ _ _ hR)

/-- One point's body meets what the launch asks of it. -/
theorem sound_body (c : Dev nD) (t : Fin cfg0.N) :
    bodyPre m c t ⊢ wp frame (wpE (defs₀ (F := F)) Variants.none c none) Set.univ (bodyAt0 t) (fun _ => bodyPost m c t) := by
  rcases Nat.eq_zero_or_pos t.val with h | h
  · obtain rfl : t = t0_0 := Fin.ext h
    exact point_first m c
  · exact point_later m c t (t.val - 1) (by omega)

/-- The launch's body at a point is the kernel's function there. -/
theorem defs₀_row (t : Fin cfg0.N) :
    defs₀ (F := F) .tc cfg0.body (cfg0.bodyArgs t (cfg0.slots t)) = bodyAt0 t := by
  unfold defs₀; rw [Defs.onTc_tc]

/-- The same, in the form the launch states it. -/
theorem body_obligation (c : Dev nD) : BodyObligationRel (dat m c) (defs₀ (F := F)) Variants.none () Set.univ marked (held01 m c) := fun t => by
  rw [bigSep_W0, bigSep_W0, defs₀_row]
  exact sound_body m c t

/-! ## The run -/

/-- From any memory the kernel terminates, every semaphore at zero, at some contents that the proof data allow. -/
theorem run_main : θ_run defs (onTc (τ := τ) (main (F := F))) (s₀ m ρ)
    (fun r => RDat.FramePost cfg0 (rdat m) (V m) r ∧ r.2.sem = fun _ => 0) :=
  RDat.θ_run_frame_track (Q' := _) cfgs (0 : Fin 1) launch0 defs₀ Variants.none (rdat m) m ρ main
    (fun c => (body_obligation m c).toRRel) (fun c w => by fin_cases w <;> rfl) (fun _ _ => rfl) (V m) (hmain m Variants.none)
    (fun _ _ => rfl) (fun _ => .rfl) (fun c => carry_forget m c (Fin.last cfg0.N).val) (fun _ h => h)

/-- The last point writes back the whole of the scores. -/
theorem wholeAt_last : (cfg0.win 1).WholeAt t0_8 := by decide +kernel

/-- The images are the argument. -/
theorem imgs_eq (c : Dev nD) : imgs m c = m ((c.tc : Thread nD τ).loc main_arg0) := by
  funext x
  exact congrArg (m ((c.tc : Thread nD τ).loc main_arg0)) (Rect.emb_unit_full (s := S8x576x768) _ x)

/-- What the run ends at: every semaphore at zero, the argument unchanged, and each row of the result a row of scores. -/
theorem run_scores : θ_run defs (onTc (τ := τ) (main (F := F))) (s₀ m ρ) (fun r => (∀ c : Dev nD,
      r.2.mem ((c.tc : Thread nD τ).loc main_arg0) = m ((c.tc : Thread nD τ).loc main_arg0)
      ∧ RowsDone (imgs m c) 8 (r.2.mem ((c.tc : Thread nD τ).loc main_v0)))
    ∧ r.2.sem = fun _ => 0) :=
  (θ_run defs _ _).mono (fun r h => ⟨fun c => by
    refine ⟨(h.1.arr_in c 0 rfl).trans (V_main_arg0 m c), ?_⟩
    obtain ⟨X, hX, hG⟩ := RDat.ArrAt.emb_eq_of_wholeAt ((h.1 c).1 1) wholeAt_last
    have hR : RowsDone (imgs m c) 8 X := (dat m c).toRRel_leaves (w := 1) rfl hX
    have e : r.2.mem ((c.tc : Thread nD τ).loc main_v0) = X := funext fun j => hG j
    rw [e]; exact hR, h.2⟩) (run_main m ρ)

end Cert.KernelIdeal.Run
-- ==== Proof.KernelRun.lean ====
module

public import proofs.«01_k».proof.Proof.Run
public import proofs.«01_k».proof.Proof.Gen.Kernel.Frame

/-! The kernel as printed and the kernel printed for the ideal reading are one program at every float type, so the run of the one
is the run of the other. -/

@[expose] public section

set_option maxRecDepth 16384

namespace Cert.Kernel.Run

open Cert.Kernel Cert.Kernel.Gen
open Idealize.ShloMosaic Idealize.ShloMosaic.TcCoe Idealize.ShloMosaic.Tactic
open Idealize.SL.Sem

variable {F : FTy → Type} [FloatOps F]

/-- From any memory the kernel terminates, its argument unchanged and every semaphore at zero. -/
theorem run_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
        r.2.mem ((c.tc : Thread nD τ).loc main_arg0) = m ((c.tc : Thread nD τ).loc main_arg0))
      ∧ r.2.sem = fun _ => 0) := by
  have h := (θ_run (KernelIdeal.defs (F := F)) _ _).mono
    (fun r h => (⟨fun c => (h.1 c).1, h.2⟩ : (∀ c : Dev KernelIdeal.nD,
        r.2.mem ((c.tc : Thread KernelIdeal.nD KernelIdeal.τ).loc KernelIdeal.main_arg0)
          = m ((c.tc : Thread KernelIdeal.nD KernelIdeal.τ).loc KernelIdeal.main_arg0))
      ∧ r.2.sem = fun _ => 0)) (KernelIdeal.Run.run_scores (F := F) m ρ)
  have same : θ_run (defs (F := F)) (onTc (τ := τ) (main (F := F))) ⟨m, fun _ => 0, ρ⟩ (fun r => (∀ c : Dev nD,
        r.2.mem ((c.tc : Thread nD τ).loc main_arg0) = m ((c.tc : Thread nD τ).loc main_arg0)) ∧ r.2.sem = fun _ => 0)
      = θ_run (KernelIdeal.defs (F := F)) (onTc (τ := KernelIdeal.τ) (KernelIdeal.main (F := F))) ⟨m, fun _ => 0, ρ⟩
        (fun r => (∀ c : Dev KernelIdeal.nD,
          r.2.mem ((c.tc : Thread KernelIdeal.nD KernelIdeal.τ).loc KernelIdeal.main_arg0)
            = m ((c.tc : Thread KernelIdeal.nD KernelIdeal.τ).loc KernelIdeal.main_arg0)) ∧ r.2.sem = fun _ => 0) := by
    sl_kernel_rfl
  exact same.mpr h

end Cert.Kernel.Run
-- ==== Proof.TwoLeast.lean ====
module

public import Idealize.ShloMosaic.Lib.SortFacts
public import Mathlib.Data.EReal.Basic

/-! The two least values of a list, kept by a running pair, and the same two read off a sorted order of the list. -/

@[expose] public section

noncomputable section

namespace Cert.TwoLeast

open Idealize.ShloMosaic

variable {α : Type} [LinearOrder α] [OrderTop α]

/-- The least and the second least so far, after one more value. -/
def step (p : α × α) (v : α) : α × α := (min p.1 v, min p.2 (max p.1 v))

/-- The two least values of a list: the top where there are none. -/
def twoLeast (l : List α) : α × α := l.foldl step (⊤, ⊤)

omit [OrderTop α] in
/-- Two values may be taken in either order. -/
theorem step_comm (p : α × α) (v w : α) : step (step p v) w = step (step p w) v := by
  obtain ⟨a, b⟩ := p
  refine Prod.ext (min_right_comm a v w) ?_
  show min (min b (max a v)) (max (min a v) w) = min (min b (max a w)) (max (min a w) v)
  rw [min_assoc, min_assoc, max_min_distrib_right, max_min_distrib_right, max_comm v w]
  congr 1
  rw [← min_assoc, ← min_assoc, min_comm (max a v)]

/-- The two least values do not depend on the order of the list. -/
theorem twoLeast_perm {l l' : List α} (h : l.Perm l') : twoLeast l = twoLeast l' :=
  h.foldl_eq' (fun v _ w _ p => step_comm p v w) _

/-- A value that is the top changes nothing. -/
theorem step_top (p : α × α) : step p ⊤ = p := by
  simp [step]

omit [OrderTop α] in
/-- Values at least as great as both so far change nothing. -/
theorem foldl_step_of_ge (a b : α) (hab : a ≤ b) (l : List α) (h : ∀ v ∈ l, b ≤ v) : l.foldl step (a, b) = (a, b) := by
  induction l with
  | nil => rfl
  | cons v l ih =>
    have hv : b ≤ v := h v (by simp)
    have e : step (a, b) v = (a, b) := by
      simp [step, min_eq_left (hab.trans hv), max_eq_right (hab.trans hv), min_eq_left hv]
    rw [List.foldl_cons, e]
    exact ih fun w hw => h w (by simp [hw])

/-- Of a list in ascending order the two least are the first two. -/
theorem twoLeast_sorted (a b : α) (l : List α) (hab : a ≤ b) (h : ∀ v ∈ l, b ≤ v) : twoLeast (a :: b :: l) = (a, b) := by
  have e : step (step (⊤, ⊤) a) b = (a, b) := by simp [step, hab]
  show l.foldl step (step (step (⊤, ⊤) a) b) = _
  rw [e]
  exact foldl_step_of_ge a b hab l h

/-- A monotone function that keeps the top may be applied to the values first. -/
theorem twoLeast_map {β : Type} [LinearOrder β] [OrderTop β] (f : α → β) (hf : Monotone f) (ht : f ⊤ = ⊤) (l : List α) :
    twoLeast (l.map f) = (f (twoLeast l).1, f (twoLeast l).2) := by
  have key : ∀ (l : List α) (p : α × α), (l.map f).foldl step (f p.1, f p.2) = (f (l.foldl step p).1, f (l.foldl step p).2) := by
    intro l
    induction l with
    | nil => intro p; rfl
    | cons v l ih =>
      intro p
      have e : step (f p.1, f p.2) (f v) = (f (step p v).1, f (step p v).2) := by
        simp [step, hf.map_min, hf.map_max]
      rw [List.map_cons, List.foldl_cons, List.foldl_cons, e]
      exact ih (step p v)
  have := key l (⊤, ⊤)
  simpa [twoLeast, ht] using this

/-- Positions sorted so that no earlier one must give way to a later: the values there, listed, are the values listed in order. -/
theorem perm_sortedFrom {n : ℕ} (before : Fin n → Fin n → Bool) (f : Fin n → α) :
    (List.ofFn f).Perm (List.ofFn fun k => f (sortedFrom before k)) := by
  have hb : Function.Bijective (sortedFrom before) := ⟨sortedFrom_injective before, sortedFrom_surjective before⟩
  simpa [Function.comp_def] using (Equiv.Perm.ofFn_comp_perm (Equiv.ofBijective _ hb) f).symm

/-- The two least of seven values are those at the first two positions of an ascending order. -/
theorem twoLeast_sortedFrom (before : Fin 7 → Fin 7 → Bool) (f : Fin 7 → α)
    (h : ∀ k k' : Fin 7, k < k' → f (sortedFrom before k) ≤ f (sortedFrom before k')) :
    twoLeast (List.ofFn f) = (f (sortedFrom before 0), f (sortedFrom before 1)) := by
  rw [twoLeast_perm (perm_sortedFrom before f)]
  rw [List.ofFn_succ, List.ofFn_succ]
  refine twoLeast_sorted _ _ _ (h 0 1 (by decide)) fun v hv => ?_
  obtain ⟨k, rfl⟩ := (List.mem_ofFn' _ _).mp hv
  exact h 1 k.succ.succ (by show 1 < k.val + 1 + 1; omega)

end Cert.TwoLeast
-- ==== Proof.Scores.lean ====
module

public import proofs.«01_k».proof.Proof.TwoLeast
public import Idealize.ShloMosaic.Lib.Pointwise
public import Idealize.ShloMosaic.Lib.IdealHost

/-! The mutual scores in plain mathematics: squared distances between patches, the nearest patch of each other image, and the mean
of the two least of those distances. -/

@[expose] public section

noncomputable section

namespace Cert.Scores

open Idealize.ShloMosaic Cert.TwoLeast

/-- Eight images of 576 patches, 768 numbers each. -/
abbrev Images : Type := (⟨3, ![8, 576, 768]⟩ : Shape).Idx → EReal

/-- The squared norm of patch `p` of image `r`. -/
def sq (x : Images) (r : Fin 8) (p : Fin 576) : EReal := ∑ d : Fin 768, x (ix3 r p d) * x (ix3 r p d)

/-- The dot product of patch `q` of image `r` with patch `p` of image `j`. -/
def dot (x : Images) (r : Fin 8) (q : Fin 576) (j : Fin 8) (p : Fin 576) : EReal := ∑ d : Fin 768, x (ix3 r q d) * x (ix3 j p d)

/-- Their squared distance, cut off below at zero. -/
def dist2 (x : Images) (r : Fin 8) (q : Fin 576) (j : Fin 8) (p : Fin 576) : EReal :=
  max (sq x r q + sq x j p - 2 * dot x r q j p) 0

/-- The squared distance from patch `q` of image `r` to the nearest patch of image `j`. -/
def near2 (x : Images) (r : Fin 8) (q : Fin 576) (j : Fin 8) : EReal := Finset.univ.fold min ⊤ fun p => dist2 x r q j p

/-- The two least squared distances from a patch to the other seven images. -/
def two (x : Images) (r : Fin 8) (q : Fin 576) : EReal × EReal :=
  twoLeast (List.ofFn fun k : Fin 7 => near2 x r q (r.succAbove k))

/-- The score of patch `q` of image `r`: the mean of the two least distances. -/
def score (x : Images) (r : Fin 8) (q : Fin 576) : EReal :=
  Ideal.div (Ideal.sqrt (two x r q).1 + Ideal.sqrt (two x r q).2) 2

/-! ## The square root is monotone -/

/-- The square root is monotone on all extended reals. -/
theorem sqrt_mono : Monotone Ideal.sqrt := by
  intro a b h
  induction a with
  | bot => exact bot_le
  | top => rw [top_le_iff.mp h]
  | coe a =>
    induction b with
    | bot => exact absurd h (by simp)
    | top => exact le_top
    | coe b =>
      have h' : a ≤ b := EReal.coe_le_coe_iff.mp h
      rw [Ideal.sqrt_coe, Ideal.sqrt_coe]
      by_cases ha : a < 0
      · rw [if_pos ha]; exact bot_le
      · rw [if_neg ha, if_neg (by linarith)]
        exact EReal.coe_le_coe_iff.mpr (Real.sqrt_le_sqrt h')

/-- A monotone function that keeps the top may be applied inside a least value. -/
theorem fold_min_map {n : ℕ} (f : EReal → EReal) (hf : Monotone f) (ht : f ⊤ = ⊤) (g : Fin n → EReal) :
    Finset.univ.fold min ⊤ (fun p => f (g p)) = f (Finset.univ.fold min ⊤ g) := by
  conv_lhs => rw [← ht]
  exact Finset.fold_hom (op := min) (op' := min) (fun a b => hf.map_min)

/-! ## Numbers -/

/-- The word of two. -/
theorem ofBits_two : Ideal.ofBits .f32 0x40000000#32 = 2 := by
  simp [Ideal.ofBits, Ideal.ieee, -EReal.coe_mul]; norm_num; norm_cast

/-- The word of one half. -/
theorem ofBits_half : Ideal.ofBits .f32 0x3F000000#32 = ((1 / 2 : ℝ) : EReal) := by
  simp [Ideal.ofBits, Ideal.ieee, -EReal.coe_mul]; norm_num

/-- The word of `+∞`. -/
theorem ofBits_top : Ideal.ofBits .f32 0x7F800000#32 = ⊤ := by
  simp [Ideal.ofBits, Ideal.ieee]

/-- The narrow word of `+∞`. -/
theorem ofBits_top_narrow : Ideal.ofBits .bf16 0x7F80#16 = ⊤ := by
  simp [Ideal.ofBits, Ideal.ieee]

/-! ## Sums and halves -/

/-- A factor that is neither negative nor infinite may be taken out of a sum. -/
theorem sum_mul_left {ι : Type} (c : EReal) (hc : 0 ≤ c) (hc' : c ≠ ⊤) (s : Finset ι) (f : ι → EReal) :
    ∑ i ∈ s, c * f i = c * ∑ i ∈ s, f i := by
  classical
  induction s using Finset.induction_on with
  | empty => simp
  | insert i s hi ih => rw [Finset.sum_insert hi, Finset.sum_insert hi, ih, EReal.left_distrib_of_nonneg_of_ne_top hc hc']

/-- One half, as an extended real. -/
abbrev half : EReal := ((1 / 2 : ℝ) : EReal)

/-- One half is not negative. -/
theorem half_nonneg : 0 ≤ half := EReal.coe_nonneg.mpr (by norm_num)

/-- Two is not negative. -/
theorem two_nonneg : (0 : EReal) ≤ 2 := by norm_num

/-- Two is finite. -/
theorem two_ne_top : (2 : EReal) ≠ ⊤ := EReal.coe_ne_top (2 : ℝ)

/-- Twice a half is the whole. -/
theorem two_mul_half (y : EReal) : 2 * (half * y) = y := by
  have h : (2 : EReal) * half = 1 := by
    show ((2 : ℝ) : EReal) * ((1 / 2 : ℝ) : EReal) = 1
    rw [← EReal.coe_mul]; norm_num
  rw [← mul_assoc, h, one_mul]

/-- Division by two is multiplication by one half. -/
theorem div_two (y : EReal) : Ideal.div y 2 = half * y := by
  have h : (2 : EReal) ≠ 0 := by norm_num
  unfold Ideal.div
  rw [if_neg h, mul_comm]
  congr 1
  show ((2 : ℝ) : EReal)⁻¹ = ((1 / 2 : ℝ) : EReal)
  rw [← EReal.coe_inv]
  norm_num

/-- A square is not negative. -/
theorem mul_self_nonneg (y : EReal) : 0 ≤ y * y := by
  rcases le_total 0 y with h | h
  · exact mul_nonneg h h
  · have := mul_nonneg (EReal.neg_nonneg.mpr h) (EReal.neg_nonneg.mpr h)
    rwa [neg_mul_neg] at this

/-- A squared norm is not negative. -/
theorem sq_nonneg (x : Images) (r : Fin 8) (p : Fin 576) : 0 ≤ sq x r p :=
  Finset.sum_nonneg fun d _ => mul_self_nonneg _

/-! ## The nearest patch from the halves -/

/-- Twice the sum of a half norm and the least, over the other image's patches, of a half norm less a dot product, cut off at
zero: the least squared distance. -/
theorem near2_of_halves (x : Images) (r : Fin 8) (q : Fin 576) (j : Fin 8) :
    max (2 * (half * sq x r q + Finset.univ.fold min ⊤ fun p : Fin 576 => half * sq x j p - dot x r q j p)) 0 = near2 x r q j := by
  have hm : Monotone fun y : EReal => max (2 * (half * sq x r q + y)) 0 := by
    intro y y' h
    exact max_le_max (mul_le_mul_of_nonneg_left (by gcongr) two_nonneg) le_rfl
  have ht : (fun y : EReal => max (2 * (half * sq x r q + y)) 0) ⊤ = ⊤ := by
    have h : half * sq x r q ≠ ⊥ := fun h => absurd (mul_nonneg half_nonneg (sq_nonneg x r q)) (by rw [h]; simp)
    show max (2 * (half * sq x r q + ⊤)) 0 = ⊤
    rw [EReal.add_top_of_ne_bot h, EReal.mul_top_of_pos (by norm_num)]
    exact max_eq_left le_top
  rw [near2, ← fold_min_map _ hm ht]
  congr 1
  funext p
  show max (2 * (half * sq x r q + (half * sq x j p - dot x r q j p))) 0 = dist2 x r q j p
  rw [dist2, sub_eq_add_neg, sub_eq_add_neg, EReal.left_distrib_of_nonneg_of_ne_top two_nonneg two_ne_top,
    EReal.left_distrib_of_nonneg_of_ne_top two_nonneg two_ne_top, two_mul_half, two_mul_half, mul_neg, add_assoc]

/-! ## The image left out -/

/-- Eight images are one of them and the seven others. -/
theorem perm_succAbove (r : Fin 8) : ([0, 1, 2, 3, 4, 5, 6, 7] : List (Fin 8)).Perm (r :: List.ofFn r.succAbove) := by
  revert r; decide

/-- The two least over eight images, the top taken for one's own, are the two least over the other seven. -/
theorem twoLeast_own (r : Fin 8) (g : Fin 8 → EReal) :
    twoLeast (([0, 1, 2, 3, 4, 5, 6, 7] : List (Fin 8)).map fun j => if r = j then ⊤ else g j)
      = twoLeast (List.ofFn fun k : Fin 7 => g (r.succAbove k)) := by
  rw [twoLeast_perm ((perm_succAbove r).map _), List.map_cons, if_pos rfl, List.map_ofFn]
  have e : ((fun j => if r = j then ⊤ else g j) ∘ r.succAbove) = fun k : Fin 7 => g (r.succAbove k) := by
    funext k
    exact if_neg (Fin.succAbove_ne r k).symm
  rw [e, twoLeast, List.foldl_cons, step_top]
  rfl

end Cert.Scores
-- ==== Proof.Value.lean ====
module

public import proofs.«01_k».proof.Proof.Run
public import proofs.«01_k».proof.Proof.Scores

/-! The kernel's values read at an index, floats taken as extended reals. -/

@[expose] public section

noncomputable section

namespace Cert.KernelIdeal.Value

open Cert.KernelIdeal Cert.KernelIdeal.Gen Cert.KernelIdeal.Run Cert.Scores Cert.TwoLeast
open Idealize.ShloMosaic

/-- The patches kept as rows are the patches. -/
theorem keepRows_apply (z : Vec Ideal S1x576x768 .f32) (p : Fin 576) (d : Fin 768) :
    keepRows z (ix2 p d) = z (ix3 0 p d) := by
  pointwise [keepRows, patches]

/-- The patches kept as an image are the patches. -/
theorem keepImg_apply (z : Vec Ideal S1x576x768 .f32) (p : Fin 576) (d : Fin 768) :
    keepImg z (ix3 0 p d) = z (ix3 0 p d) := by
  pointwise [keepImg, patches]

/-- The column kept of an image holds half of each patch's squared norm. -/
theorem keepCol_apply (z : Vec Ideal S1x576x768 .f32) (p : Fin 576) (f : Fin 768 → EReal) (hz : ∀ d, z (ix3 0 p d) = f d) :
    keepCol z (ix2 p 0) = (half * ∑ d : Fin 768, f d * f d : EReal) := by
  pointwise [keepCol, halfSq, patches]
  rw [ofBits_half, sum_mul_left _ half_nonneg (EReal.coe_ne_top _)]
  simp only [hz]

/-- The row kept of an image holds the same. -/
theorem keepRow_apply (z : Vec Ideal S1x576x768 .f32) (p : Fin 576) (f : Fin 768 → EReal) (hz : ∀ d, z (ix3 0 p d) = f d) :
    keepRow z (ix3 0 0 p) = (half * ∑ d : Fin 768, f d * f d : EReal) := by
  pointwise [keepRow, halfSq, patches]
  rw [ofBits_half, sum_mul_left _ half_nonneg (EReal.coe_ne_top _)]
  simp only [hz]

/-- A dot product of a row with one of an image's patches. -/
theorem dotV_apply (Z2 : Vec Ideal S4608x768 .bf16) (z : Vec Ideal S1x576x768 .bf16) (n : Fin 4608) (q : Fin 576)
    (f g : Fin 768 → EReal) (hf : ∀ d, Z2 (ix2 n d) = f d) (hg : ∀ d, z (ix3 0 q d) = g d) :
    dotV Z2 z (ix2 n q) = (∑ d : Fin 768, g d * f d : EReal) := by
  pointwise [dotV]
  simp only [hf, hg, mul_comm]

/-- The squared distance to the nearest patch, from half norms and dot products. -/
theorem nearest_apply (own j : BitVec 32) (a : Vec Ideal S1x1x576 .f32) (b : Vec Ideal S576x1 .bf16) (h : Vec Ideal S576x576 .bf16)
    (q : Fin 576) (A : EReal) (B D : Fin 576 → EReal) (ha : a (ix3 0 0 q) = A) (hb : ∀ p, b (ix2 p 0) = B p)
    (hh : ∀ p, h (ix2 p q) = D p) :
    nearest own j a b h (ix2 0 q) = if own = j then (⊤ : EReal) else
      max (2 * (A + Finset.univ.fold min (⊤ : EReal) fun p : Fin 576 => B p - D p)) 0 := by
  pointwise [nearest]
  rw [ofBits_top, ofBits_two, ofBits_top_narrow]
  simp only [ha, hb, hh]
  by_cases e : own = j
  · subst e; simp [Scalar.select, Scalar.cmpi, IntOp.cmpi]
  · simp [Scalar.select, Scalar.cmpi, IntOp.cmpi, e, beq_eq_false_iff_ne.mpr e]

/-- Half the sum of two square roots. -/
theorem halfRoots_apply (p : FVec Ideal S1x576 .f32 × FVec Ideal S1x576 .f32) (q : Fin 576) :
    halfRoots p (ix3 0 0 q) = (half * (Ideal.sqrt (p.1 (ix2 0 q)) + Ideal.sqrt (p.2 (ix2 0 q))) : EReal) := by
  pointwise [halfRoots]
  rw [ofBits_half]

/-! ## The sweep -/

/-- The sweep at one patch is the running pair of the values there. -/
theorem foldl_sweepStep (f : Fin 8 → FVec Ideal S1x576 .f32) (q : Fin 576) (l : List (Fin 8))
    (p : FVec Ideal S1x576 .f32 × FVec Ideal S1x576 .f32) :
    (((l.foldl (fun p j => sweepStep p (f j)) p).1 (ix2 0 q), (l.foldl (fun p j => sweepStep p (f j)) p).2 (ix2 0 q)) : EReal × EReal)
      = (l.map fun j => (f j (ix2 0 q) : EReal)).foldl step (p.1 (ix2 0 q), p.2 (ix2 0 q)) := by
  induction l generalizing p with
  | nil => rfl
  | cons j l ih => exact ih (sweepStep p (f j))

/-- The sweep at one patch holds the two least of the eight values there. -/
theorem sweep_apply (own : BitVec 32) (a : Vec Ideal S1x1x576 .f32) (Bb : Vec Ideal S4608x1 .bf16) (H : Vec Ideal S4608x576 .bf16)
    (q : Fin 576) :
    (((sweep own a Bb H).1 (ix2 0 q), (sweep own a Bb H).2 (ix2 0 q)) : EReal × EReal)
      = twoLeast (([0, 1, 2, 3, 4, 5, 6, 7] : List (Fin 8)).map fun j =>
          (nearest own (BitVec.ofNat 32 j.val) a (View.ld Bb (rCol j)) (View.ld H (rDot j)) (ix2 0 q) : EReal)) := by
  refine (foldl_sweepStep _ q _ _).trans ?_
  show List.foldl step (Ideal.ofBits .f32 0x7F800000#32, Ideal.ofBits .f32 0x7F800000#32) _ = _
  rw [ofBits_top]
  rfl

/-! ## What is kept, read at an index -/

/-- Image `r` of a block of images. -/
theorem ld_rImg {e : EltTy} (x : Vec Ideal S8x576x768 e) (r : Fin 8) (p : Fin 576) (d : Fin 768) :
    View.ld x (rImg r) (ix3 0 p d) = x (ix3 r p d) := by
  pointwise [rImg]

/-- Row `r` of a block of rows. -/
theorem ld_rRow {e : EltTy} (x : Vec Ideal S8x1x576 e) (r : Fin 8) (q : Fin 576) :
    View.ld x (rRow r) (ix3 0 0 q) = x (ix3 r 0 q) := by
  pointwise [rRow]

/-- Image `r`'s patches among all patches. -/
theorem ld_rRows {e : EltTy} (x : Vec Ideal S4608x768 e) (r : Fin 8) (p : Fin 576) (d : Fin 768) :
    View.ld x (rRows r) (ix2 p d) = x (ix2 ⟨576 * r.val + p.val, by omega⟩ d) := by
  pointwise [rRows]

/-- Image `r`'s rows of a dot product. -/
theorem ld_rDot {e : EltTy} (x : Vec Ideal S4608x576 e) (r : Fin 8) (p : Fin 576) (q : Fin 576) :
    View.ld x (rDot r) (ix2 p q) = x (ix2 ⟨576 * r.val + p.val, by omega⟩ q) := by
  pointwise [rDot]

/-- Two images' numbers are equal as words where the images are one. -/
theorem ofNat_eq_iff (r j : Fin 8) : BitVec.ofNat 32 r.val = BitVec.ofNat 32 j.val ↔ r = j := by
  revert r j; decide

/-- A row of scores as the kernel computes it holds the scores. -/
theorem score_apply (X : Vec Ideal S8x576x768 .f32) (r : Fin 8) (w : FVec Ideal S1x1x576 .f32) (h : Score X r w) (q : Fin 576) :
    w (ix3 0 0 q) = score X r q := by
  obtain ⟨Z2, Z3, Bb, A, K, rfl⟩ := h
  obtain ⟨H, hH⟩ : ∃ H : Vec Ideal S4608x576 .bf16, H = dotV Z2 (View.ld Z3 (rImg r)) := ⟨_, rfl⟩
  have hX : ∀ (j : Fin 8) (p : Fin 576) (d : Fin 768), View.ld X (rImg j) (ix3 0 p d) = X (ix3 j p d) := ld_rImg X
  have hZ2 : ∀ (j : Fin 8) (p : Fin 576) (d : Fin 768), Z2 (ix2 ⟨576 * j.val + p.val, by omega⟩ d) = X (ix3 j p d) := fun j p d =>
    (ld_rRows Z2 j p d).symm.trans ((congrFun (K.rows j) (ix2 p d)).trans ((keepRows_apply _ p d).trans (hX j p d)))
  have hZ3 : ∀ (p : Fin 576) (d : Fin 768), View.ld Z3 (rImg r) (ix3 0 p d) = X (ix3 r p d) := fun p d =>
    (congrFun (K.imgs r) (ix3 0 p d)).trans ((keepImg_apply _ p d).trans (hX r p d))
  have hB : ∀ (j : Fin 8) (p : Fin 576), View.ld Bb (rCol j) (ix2 p 0) = (half * sq X j p : EReal) := fun j p =>
    (congrFun (K.cols j) (ix2 p 0)).trans (keepCol_apply _ p (fun d => X (ix3 j p d)) (hX j p))
  have hA : View.ld A (rRow r) (ix3 0 0 q) = (half * sq X r q : EReal) :=
    (congrFun (K.norms r) (ix3 0 0 q)).trans (keepRow_apply _ q (fun d => X (ix3 r q d)) (hX r q))
  have hD : ∀ (j : Fin 8) (p : Fin 576), View.ld H (rDot j) (ix2 p q) = dot X r q j p := fun j p =>
    (ld_rDot H j p q).trans ((congrFun hH _).trans (dotV_apply _ _ _ q _ _ (hZ2 j p) (hZ3 q)))
  have hN : ∀ j : Fin 8, nearest (BitVec.ofNat 32 r.val) (BitVec.ofNat 32 j.val) (View.ld A (rRow r)) (View.ld Bb (rCol j))
      (View.ld H (rDot j)) (ix2 0 q) = if r = j then (⊤ : EReal) else near2 X r q j := by
    intro j
    refine (nearest_apply _ _ _ _ _ q _ _ _ hA (hB j) (hD j)).trans ?_
    rw [near2_of_halves]
    exact if_congr (ofNat_eq_iff r j) rfl rfl
  have hs := (sweep_apply (BitVec.ofNat 32 r.val) (View.ld A (rRow r)) Bb H q).trans
    ((congrArg (fun f => twoLeast (([0, 1, 2, 3, 4, 5, 6, 7] : List (Fin 8)).map f)) (funext hN)).trans
      (twoLeast_own r fun j => near2 X r q j))
  refine (congrArg (fun H => rowV (BitVec.ofNat 32 r.val) (View.ld A (rRow r)) Bb H (ix3 0 0 q)) hH.symm).trans ?_
  refine (halfRoots_apply _ q).trans ?_
  rw [score, div_two, two, ← hs]

/-- All eight rows done, the array holds the scores. -/
theorem scores_apply (X : Vec Ideal S8x576x768 .f32) (O : Vec Ideal S8x1x576 .f32) (h : RowsDone X 8 O) (r : Fin 8) (q : Fin 576) :
    O (ix3 r 0 q) = score X r q := by
  exact (ld_rRow O r q).symm.trans (score_apply X r _ (h r r.isLt) q)

end Cert.KernelIdeal.Value
-- ==== Proof.TopTwo.lean ====
module

public import proofs.«01_k».proof.Proof.TwoLeast
public import proofs.«01_k».proof.Proof.Gen.ReferenceIdeal
public import Idealize.ShloMosaic.Lib.Pointwise
public import Idealize.ShloMosaic.Lib.IdealHost

/-! The reference's two calls of top_k, row by row: the first over the negated values of a row gives its two least, the second
over two values only reorders them. -/

@[expose] public section

noncomputable section

namespace Cert.TopTwo

open Cert.ReferenceIdeal Cert.ReferenceIdeal.Gen Cert.TwoLeast
open Idealize.ShloMosaic

/-- One value comes before another in a descending order where it is greater. -/
def greater {n : ℕ} (f : Fin n → Ideal .f32) (k k' : Fin n) : Bool := FloatOps.cmpfTotal .gt (f k) (f k') == 1#1

/-- The comparison by the total order is the order of the extended reals. -/
theorem greater_eq_true {n : ℕ} (f : Fin n → Ideal .f32) (k k' : Fin n) :
    greater f k k' = decide ((f k' : EReal) < f k) := by
  show (BitVec.ofBool (decide ((f k' : EReal) < f k)) == 1#1) = _
  cases decide ((f k' : EReal) < f k) <;> rfl

/-- In a descending order an earlier position holds a value at least as great. -/
theorem antitone_greater {n : ℕ} (f : Fin n → Ideal .f32) (k k' : Fin n) (h : k < k') :
    (f (sortedFrom (greater f) k') : EReal) ≤ f (sortedFrom (greater f) k) := by
  have := sortedFrom_noInversion (greater f) (greater f)
    (fun a b h => by simp only [greater_eq_true, decide_eq_true_eq, decide_eq_false_iff_not, not_lt] at h ⊢; exact h.le)
    (fun a b h => h)
    (fun a b c h h' => by simp only [greater_eq_true, decide_eq_false_iff_not, not_lt] at h h' ⊢; exact h.trans h')
    k k' h
  simpa only [greater_eq_true, decide_eq_false_iff_not, not_lt] using this

/-- The values of a top_k of two along the second axis: row `q` is read at the first positions of its descending order. -/
theorem topK_apply {n : ℕ} (hn : 2 ≤ n) (x : (⟨2, ![576, n]⟩ : Shape).Idx → Ideal .f32)
    (h : (⟨2, ![576, n]⟩ : Shape).Slices (fun _ => 0) S576x2) (q : Fin 576) (t : Fin 2) :
    (Host.topK S576x2 1 (FloatOps.cmpfTotal .gt) x h).1 (ix2 q t)
      = x (ix2 q (sortedFrom (greater fun k : Fin n => x (ix2 q k)) (t.castLE hn))) := by
  have hj : ∀ (i : (⟨2, ![576, n]⟩ : Shape).Idx) (k : Fin n), i 0 = q → i.along 1 k = ix2 q k := by
    intro i k hi
    funext a
    match a with
    | ⟨0, _⟩ => exact hi
    | ⟨1, _⟩ => rfl
  have key : ∀ (i : (⟨2, ![576, n]⟩ : Shape).Idx), i 0 = q →
      (Host.sort2 ⟨2, ![576, n]⟩ 1 (fun l r => FloatOps.cmpfTotal (F := Ideal) .gt l.1 r.1) x
        (fun i => iotaInDim ⟨2, ![576, n]⟩ 32 1 i)).1 i
        = x (ix2 q (sortedFrom (greater fun k : Fin n => x (ix2 q k)) (i 1))) := by
    intro i hi
    show x (i.along 1 (sortedFrom (n := n) (fun k k' => FloatOps.cmpfTotal (F := Ideal) .gt (x (i.along 1 k)) (x (i.along 1 k')) == 1#1) (i 1))) = _
    rw [hj i _ hi]
    congr 3
    funext k k'
    rw [hj i k hi, hj i k' hi]
    rfl
  refine (key _ ?_).trans ?_
  · exact Fin.ext (Nat.zero_add _)
  · congr 3
    exact Fin.ext (Nat.zero_add _)

/-- Negated, a top_k of two over a row's negated values gives the row's two least values. -/
theorem topK_neg (x : S576x7.Idx → EReal) (q : Fin 576) :
    (fun t : Fin 2 => -(Host.topK (α := EReal) S576x2 1 (FloatOps.cmpfTotal (F := Ideal) (φ := .f32) .gt) (fun i : S576x7.Idx => -(x i))
        sliceFits_S576x7_S576x2).1 (ix2 q t) : Fin 2 → EReal)
      = ![(twoLeast (List.ofFn fun k : Fin 7 => x (ix2 q k))).1, (twoLeast (List.ofFn fun k : Fin 7 => x (ix2 q k))).2] := by
  rw [twoLeast_sortedFrom (greater fun k : Fin 7 => (-(x (ix2 q k)) : EReal)) (fun k => x (ix2 q k))
    fun k k' h => EReal.neg_le_neg_iff.mp (antitone_greater (fun k : Fin 7 => (-(x (ix2 q k)) : EReal)) k k' h)]
  funext t
  refine (congrArg (fun y : EReal => -y) (topK_apply (n := 7) (by decide) _ _ q t)).trans ?_
  match t with
  | ⟨0, _⟩ => exact neg_neg _
  | ⟨1, _⟩ => exact neg_neg _

/-- A top_k of two over two values keeps their sum. -/
theorem sum_topK (x : S576x2.Idx → Ideal .f32) (q : Fin 576) :
    (∑ t : Fin 2, ((Host.topK S576x2 1 (FloatOps.cmpfTotal .gt) x sliceFits_S576x2_S576x2).1 (ix2 q t) : EReal))
      = ∑ t : Fin 2, (x (ix2 q t) : EReal) := by
  have hb : Function.Bijective (sortedFrom (greater fun k : Fin 2 => x (ix2 q k))) :=
    ⟨sortedFrom_injective _, sortedFrom_surjective _⟩
  rw [← Equiv.sum_comp (Equiv.ofBijective _ hb) fun t => (x (ix2 q t) : EReal)]
  exact Finset.sum_congr rfl fun t _ => topK_apply (n := 2) le_rfl x _ q t

end Cert.TopTwo
-- ==== Proof.RefRow.lean ====
module

public import proofs.«01_k».proof.Proof.Scores
public import proofs.«01_k».proof.Proof.TopTwo
public import proofs.«01_k».proof.Proof.Gen.ReferenceIdeal

/-! One image's row of the reference, as a function of the image's patches and of the other seven images' patches. -/

@[expose] public section

noncomputable section

namespace Cert.RefRow

open Cert.ReferenceIdeal Cert.ReferenceIdeal.Gen Cert.TwoLeast Cert.Scores Cert.TopTwo
open Idealize.ShloMosaic

variable {F : FTy → Type} [FloatOps F]

/-- The distances from an image's patches to a list of patches. -/
def cdist (a : FVec F S576x768 .f32) (b : FVec F S4032x768 .f32) : FVec F S576x4032 .f32 :=
  Host.sqrt (maximumf
    (subf
      (addf
        (broadcastInDim S576x4032 ![0, 1] bcast_S576x1_S576x4032_0_1
          (broadcastInDim S576x1 ![0] bcast_S576_S576x1_0
            (Host.reduceAdd (mulf a a) (constant S_ .f32 0x00000000#32) reducesTo_S576x768_S576_d1 h_S_)))
        (broadcastInDim S576x4032 ![0, 1] bcast_S1x4032_S576x4032_0_1
          (broadcastInDim S1x4032 ![1] bcast_S4032_S1x4032_1
            (Host.reduceAdd (mulf b b) (constant S_ .f32 0x00000000#32) reducesTo_S4032x768_S4032_d1 h_S_))))
      (mulf (broadcastInDim S576x4032 ![] bcast_S_S576x4032 (constant S_ .f32 0x40000000#32))
        (Host.dotGeneral dot_S576x768_S768x4032_S576x4032_1_0_0_1_n_n none a
          (transpose S768x4032 [1, 0] b transposes_S4032x768_S768x4032_1_0))))
    (broadcastInDim S576x4032 ![] bcast_S_S576x4032 (constant S_ .f32 0x00000000#32)))

/-- The nearest of each image's patches. -/
def nearestOf (d : FVec F S576x4032 .f32) : FVec F S576x7 .f32 :=
  Host.reduce FloatOps.minimumf (shapeCast S576x7x576 d shapeCasts_S576x4032_S576x7x576) (constant S_ .f32 0x7F800000#32)
    reducesTo_S576x7x576_S576x7_d2 h_S_

/-- The two least of a row, through a top_k of the negated values. -/
def leastTwo (v : FVec F S576x7 .f32) : FVec F S576x2 .f32 :=
  Host.negf (Host.topK S576x2 1 (FloatOps.cmpfTotal .gt) (Host.negf v) sliceFits_S576x7_S576x2).1

/-- The mean of two values, taken through a second top_k. -/
def meanOf (v : FVec F S576x2 .f32) : FVec F S576 .f32 :=
  Host.divf
    (Host.reduceAdd (Host.topK S576x2 1 (FloatOps.cmpfTotal .gt) v sliceFits_S576x2_S576x2).1
      (constant S_ .f32 0x00000000#32) reducesTo_S576x2_S576_d1 h_S_)
    (broadcastInDim S576 ![] bcast_S_S576 (constant S_ .f32 0x40000000#32))

/-- The row of scores. -/
def refRow (a : FVec F S576x768 .f32) (b : FVec F S4032x768 .f32) : FVec F S576 .f32 := meanOf (leastTwo (nearestOf (cdist a b)))

/-! ## Read at an index -/

/-- A distance. -/
theorem cdist_apply (a : FVec Ideal S576x768 .f32) (b : FVec Ideal S4032x768 .f32) (q : Fin 576) (n : Fin 4032) :
    cdist a b (ix2 q n)
      = Ideal.sqrt (max ((∑ d : Fin 768, a (ix2 q d) * a (ix2 q d)) + (∑ d : Fin 768, b (ix2 n d) * b (ix2 n d))
          - 2 * ∑ d : Fin 768, a (ix2 q d) * b (ix2 n d) : EReal) 0) := by
  pointwise [cdist]
  rw [ofBits_two]

/-- The distance to the nearest patch of the `k`-th other image. -/
theorem nearestOf_apply (d : FVec Ideal S576x4032 .f32) (q : Fin 576) (k : Fin 7) :
    nearestOf d (ix2 q k) = Finset.univ.fold min (⊤ : EReal) fun p : Fin 576 => d (ix2 q ⟨k.val * 576 + p.val, by omega⟩) := by
  pointwise [nearestOf]
  rw [ofBits_top]

/-- Half the sum of the two. -/
theorem meanOf_apply (v : FVec Ideal S576x2 .f32) (q : Fin 576) :
    meanOf v (ix1 q) = Ideal.div (v (ix2 q 0) + v (ix2 q 1) : EReal) 2 := by
  pointwise [meanOf]
  rw [ofBits_two, sum_topK, Fin.sum_univ_two]

/-- The two least of a row of seven. -/
theorem leastTwo_apply (v : FVec Ideal S576x7 .f32) (q : Fin 576) (t : Fin 2) :
    leastTwo v (ix2 q t)
      = (![(twoLeast (List.ofFn fun k : Fin 7 => (v (ix2 q k) : EReal))).1, (twoLeast (List.ofFn fun k : Fin 7 => (v (ix2 q k) : EReal))).2] :
          Fin 2 → EReal) t :=
  congrFun (topK_neg v q) t

/-- The row of scores of image `r`, from its own patches and the other seven images' patches in order. -/
theorem refRow_apply (x : Images) (r : Fin 8) (a : FVec Ideal S576x768 .f32) (b : FVec Ideal S4032x768 .f32)
    (ha : ∀ q d, a (ix2 q d) = x (ix3 r q d))
    (hb : ∀ (k : Fin 7) (p : Fin 576) d, b (ix2 ⟨k.val * 576 + p.val, by omega⟩ d) = x (ix3 (r.succAbove k) p d)) (q : Fin 576) :
    refRow a b (ix1 q) = score x r q := by
  have near : ∀ k : Fin 7, nearestOf (cdist a b) (ix2 q k) = Ideal.sqrt (near2 x r q (r.succAbove k)) := by
    intro k
    rw [nearestOf_apply, near2, ← fold_min_map Ideal.sqrt sqrt_mono rfl]
    congr 1
    funext p
    rw [cdist_apply]
    simp only [ha, hb]
    rfl
  rw [refRow, meanOf_apply, leastTwo_apply, leastTwo_apply]
  simp only [near, Matrix.cons_val]
  have hm := twoLeast_map Ideal.sqrt sqrt_mono rfl (List.ofFn fun k : Fin 7 => near2 x r q (r.succAbove k))
  rw [List.map_ofFn] at hm
  simp only [Function.comp_def] at hm
  rw [hm]
  rfl

end Cert.RefRow
-- ==== Proof.RefStack.lean ====
module

public import proofs.«01_k».proof.Proof.RefRow
public import proofs.«01_k».proof.Proof.Gen.ReferenceIdeal.Read

/-! The reference's result: the eight images' rows, stacked. -/

@[expose] public section

noncomputable section

namespace Cert.RefStack

open Cert.ReferenceIdeal Cert.ReferenceIdeal.Gen Cert.Scores Cert.RefRow
open Idealize.ShloMosaic

variable {F : FTy → Type} [FloatOps F]

/-- Image `r`'s patches. -/
def ownOf (x : FVec F S8x576x768 .f32) (r : Fin 8) : FVec F S576x768 .f32 :=
  shapeCast S576x768 (extractStridedSlice S1x576x768 ![r.val, 0, 0] x (by revert r; decide)) shapeCasts_S1x576x768_S576x768

/-- The images before image `r` and those after it make seven. -/
theorem concatenates_rest (r : Fin 8) :
    Shape.Concatenates [⟨3, ![r.val, 576, 768]⟩, ⟨3, ![7 - r.val, 576, 768]⟩] S7x576x768 0 := by
  revert r; decide

/-- The images before image `r`, then those after it. -/
def restOf (x : FVec F S8x576x768 .f32) (r : Fin 8) : FVec F S7x576x768 .f32 :=
  concatenate S7x576x768 0
    [⟨⟨3, ![r.val, 576, 768]⟩, extractStridedSlice ⟨3, ![r.val, 576, 768]⟩ ![0, 0, 0] x (by revert r; decide)⟩,
      ⟨⟨3, ![7 - r.val, 576, 768]⟩, extractStridedSlice ⟨3, ![7 - r.val, 576, 768]⟩ ![r.val + 1, 0, 0] x (by revert r; decide)⟩]
    (concatenates_rest r)

/-- The other seven images' patches, one a row. -/
def othersOf (x : FVec F S8x576x768 .f32) (r : Fin 8) : FVec F S4032x768 .f32 :=
  shapeCast S4032x768 (restOf x r) shapeCasts_S7x576x768_S4032x768

/-- Eight rows stacked. -/
def stack (f : Fin 8 → FVec F S576 .f32) : FVec F S8x1x576 .f32 :=
  broadcastInDim S8x1x576 ![0, 2] bcast_S8x576_S8x1x576_0_2
    (concatenate S8x576 0 (List.ofFn fun r : Fin 8 => (⟨S1x576, broadcastInDim S1x576 ![1] bcast_S576_S1x576_1 (f r)⟩ : (s : Shape) × (s.Idx → F .f32)))
      concatenates_S1x576_S1x576_S1x576_S1x576_S1x576_S1x576_S1x576_S1x576_S8x576_d0)

/-- The reference's result is the stack of the images' rows. -/
theorem result_eq (x : FVec F S8x576x768 .f32) :
    Read.val_main_v249 x = stack fun r => refRow (ownOf x r) (othersOf x r) := by
  rfl

/-- The images in order, image `r` left out. -/
theorem restOf_apply (x : FVec F S8x576x768 .f32) (r : Fin 8) (k : Fin 7) (p : Fin 576) (d : Fin 768) :
    restOf x r (ix3 k p d) = x (ix3 (r.succAbove k) p d) := by
  rw [restOf, concatenate_pair_apply]
  split
  · rename_i hlt
    have h : k.castSucc < r := hlt
    rw [Fin.succAbove_of_castSucc_lt r k h]
    refine congrArg x (funext fun a => Fin.ext ?_)
    match a with
    | ⟨0, _⟩ => exact Nat.zero_add _
    | ⟨1, _⟩ => exact Nat.zero_add _
    | ⟨2, _⟩ => exact Nat.zero_add _
  · rename_i hlt
    have h : r ≤ k.castSucc := not_lt.mp hlt
    rw [Fin.succAbove_of_le_castSucc r k h]
    refine congrArg x (funext fun a => Fin.ext ?_)
    match a with
    | ⟨0, _⟩ =>
      show r.val + 1 + (k.val - r.val) = k.val + 1
      have : r.val ≤ k.val := h
      omega
    | ⟨1, _⟩ => exact Nat.zero_add _
    | ⟨2, _⟩ => exact Nat.zero_add _

/-- An entry of a stack is an entry of one of its rows. -/
theorem stack_apply (f : Fin 8 → FVec F S576 .f32) (r : Fin 8) (q : Fin 576) : stack f (ix3 r 0 q) = f r (ix1 q) := by
  pointwise [stack]

/-- Image `r`'s patches read at an index. -/
theorem ownOf_apply (x : FVec Ideal S8x576x768 .f32) (r : Fin 8) (q : Fin 576) (d : Fin 768) :
    ownOf x r (ix2 q d) = x (ix3 r q d) := by
  pointwise [ownOf]

/-- The other images' patches read at an index. -/
theorem othersOf_apply (x : FVec Ideal S8x576x768 .f32) (r : Fin 8) (k : Fin 7) (p : Fin 576) (d : Fin 768) :
    othersOf x r (ix2 ⟨k.val * 576 + p.val, by omega⟩ d) = x (ix3 (r.succAbove k) p d) := by
  pointwise [othersOf]
  exact restOf_apply x r k p d

/-- The reference's result holds the scores. -/
theorem result_apply (x : FVec Ideal S8x576x768 .f32) (r : Fin 8) (q : Fin 576) :
    Read.val_main_v249 (F := Ideal) x (ix3 r 0 q) = score x r q := by
  rw [result_eq, stack_apply]
  exact refRow_apply x r _ _ (ownOf_apply x r) (othersOf_apply x r) q

end Cert.RefStack
-- ==== Proof.Equal.lean ====
module

public import proofs.«01_k».proof.Proof.Value
public import proofs.«01_k».proof.Proof.RefStack

/-! The equation: an array whose eight rows are the kernel's rows of scores is the reference's result. -/

@[expose] public section

noncomputable section

namespace Cert.Equal

open Idealize.ShloMosaic

/-- With all eight rows done, the kernel's result is the reference's. -/
theorem result_eq (X : FVec Ideal Cert.KernelIdeal.S8x576x768 .f32) (O : FVec Ideal Cert.KernelIdeal.S8x1x576 .f32)
    (h : Cert.KernelIdeal.Run.RowsDone (F := Ideal) X 8 O) : O = Cert.ReferenceIdeal.Read.val_main_v249 (F := Ideal) X := by
  funext i
  obtain ⟨r, q, rfl⟩ : ∃ (r : Fin 8) (q : Fin 576), i = ix3 r 0 q := by
    refine ⟨i 0, i 2, funext fun a => ?_⟩
    match a with
    | ⟨0, _⟩ => rfl
    | ⟨1, _⟩ => exact Subsingleton.elim (α := Fin 1) _ _
    | ⟨2, _⟩ => rfl
  exact (Cert.KernelIdeal.Value.scores_apply X O h r q).trans (Cert.RefStack.result_apply X r q).symm

end Cert.Equal
-- ==== Proof.lean ====
/- The certificate: the kernel and its ideal reading run and leave their argument unchanged, so does the reference, and at the ideal
   reading the kernel's result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Equal
public import Idealize.ShloMosaic.Lib.Claim

@[expose] public section

noncomputable section

namespace Cert.Proof

open Idealize.ShloMosaic Idealize.SL.Sem

/-- The kernel runs, its argument unchanged and every semaphore back at zero. -/
theorem frame_kernel : Cert.quiescent_Kernel (hKernel := Cert.Kernel.Gen.facts) := fun m ρ _ => Cert.Kernel.Run.run_frame m ρ

/-- So does its ideal reading. -/
theorem frame_ideal : Cert.quiescent_KernelIdeal (hKernelIdeal := Cert.KernelIdeal.Gen.facts) := fun m ρ _ =>
  (θ_run (Cert.KernelIdeal.defs (F := Ideal)) _ _).mono (fun _ h => ⟨fun c => (h.1 c).1, h.2⟩)
    (Cert.KernelIdeal.Run.run_scores (F := Ideal) m ρ)

/-- So does the reference, which declares no semaphore. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- From equal arguments both end with the reference's result. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.ReferenceIdeal.Read.val_main_v249 (F := Ideal)
    (m ((c.tc : Thread Cert.KernelIdeal.nD Cert.KernelIdeal.τ).loc Cert.KernelIdeal.main_arg0)), ?_, ?_⟩
  · refine (θ_run (Cert.KernelIdeal.defs (F := Ideal)) _ _).mono (fun r h c => ⟨?_, (h.1 c).1⟩)
      (Cert.KernelIdeal.Run.run_scores (F := Ideal) m ρ)
    have hd := (h.1 c).2
    rw [Cert.KernelIdeal.Run.imgs_eq] at hd
    exact Cert.Equal.result_eq _ _ hd
  · refine (θ_run (Cert.ReferenceIdeal.defs (F := Ideal)) _ _).mono (fun r h c => ⟨?_, (h c).2⟩)
      (Cert.ReferenceIdeal.Value.run (F := Ideal) m' ρ')
    refine (h c).1.trans ((Cert.ReferenceIdeal.Read.val_main_v249_eq (F := Ideal) (StableHlo.launchContents m' c)).trans ?_)
    exact congrArg (Cert.ReferenceIdeal.Read.val_main_v249 (F := Ideal)) (hagree c)

/-- All the claims together. -/
theorem claim : Cert.Claim := ⟨Cert.Kernel.Gen.facts, Cert.KernelIdeal.Gen.facts, Cert.ReferenceIdeal.Gen.facts,
  frame_kernel, frame_ideal, frame_reference, trivial, algebraic⟩

end Cert.Proof

end
